-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![1024, 65536]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S1024x65536 : Shape := ⟨2, ![1024, 65536]⟩
abbrev S1024x32 : Shape := ⟨2, ![1024, 32]⟩
abbrev S1024x31 : Shape := ⟨2, ![1024, 31]⟩
abbrev S31 : Shape := ⟨1, ![31]⟩
abbrev S1x31 : Shape := ⟨2, ![1, 31]⟩
abbrev S32 : Shape := ⟨1, ![32]⟩
abbrev S32x1 : Shape := ⟨2, ![32, 1]⟩
abbrev S32x31 : Shape := ⟨2, ![32, 31]⟩
abbrev S1024x1x31 : Shape := ⟨3, ![1024, 1, 31]⟩
abbrev S1x32x31 : Shape := ⟨3, ![1, 32, 31]⟩
abbrev S1024x32x31 : Shape := ⟨3, ![1024, 32, 31]⟩
abbrev S_ : Shape := ⟨0, ![]⟩
abbrev S1024x1 : Shape := ⟨2, ![1024, 1]⟩

class Facts : Prop where
  slices_S1024x65536_S1024x32_0_0 : S1024x65536.Slices ![0, 0] S1024x32
  slices_S1024x32_S1024x31_0_1 : S1024x32.Slices ![0, 1] S1024x31
  slices_S1024x32_S1024x31_0_0 : S1024x32.Slices ![0, 0] S1024x31
  bcast_S31_S1x31_1 : S31.BroadcastsInDim S1x31 (![1] : Fin 1 → Fin S1x31.rank)
  bcast_S32_S32x1_0 : S32.BroadcastsInDim S32x1 (![0] : Fin 1 → Fin S32x1.rank)
  bcast_S1x31_S32x31_0_1 : S1x31.BroadcastsInDim S32x31 (![0, 1] : Fin 2 → Fin S32x31.rank)
  bcast_S32x1_S32x31_0_1 : S32x1.BroadcastsInDim S32x31 (![0, 1] : Fin 2 → Fin S32x31.rank)
  bcast_S1024x31_S1024x1x31_0_2 : S1024x31.BroadcastsInDim S1024x1x31 (![0, 2] : Fin 2 → Fin S1024x1x31.rank)
  bcast_S32x31_S1x32x31_1_2 : S32x31.BroadcastsInDim S1x32x31 (![1, 2] : Fin 2 → Fin S1x32x31.rank)
  bcast_S1024x1x31_S1024x32x31_0_1_2 : S1024x1x31.BroadcastsInDim S1024x32x31 (![0, 1, 2] : Fin 3 → Fin S1024x32x31.rank)
  bcast_S1x32x31_S1024x32x31_0_1_2 : S1x32x31.BroadcastsInDim S1024x32x31 (![0, 1, 2] : Fin 3 → Fin S1024x32x31.rank)
  reducesTo_S1024x32x31_S1024x32_d2 : S1024x32x31.ReducesTo [2] S1024x32
  h_S_ : 0 < S_.numel
  slices_S1024x32_S1024x1_0_0 : S1024x32.Slices ![0, 0] S1024x1
  bcast_S_S1024x1 : S_.BroadcastsInDim S1024x1 (![] : Fin 0 → Fin S1024x1.rank)
  bcast_S1024x1_S1024x32_0_1 : S1024x1.BroadcastsInDim S1024x32 (![0, 1] : Fin 2 → Fin S1024x32.rank)
  bcast_S_S1024x32 : S_.BroadcastsInDim S1024x32 (![] : Fin 0 → Fin S1024x32.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S1024x65536 .f32) : FVec F S1024x65536 .f32 :=
  let v0 : FVec F S1024x65536 .f32 := (fun x => Host.sort S1024x65536 1 comparator_f32_d1 x) arg0
  v0

def fn_part1 {F : FTy → Type} [FloatOps F] (main_v3 : FVec F S1024x32 .f32) (main_v19 : IVec S1024x32 1) (main_v20 : FVec F S1024x1 .f32) (main_v21 : FVec F S1024x1 .f32) : IVec S1024x32 1 :=
  let main_v22 : IVec S1024x1 1 := cmpf .olt main_v20 main_v21
  let main_v23 : IVec S1024x32 1 := broadcastInDim S1024x32 ![0, 1] bcast_S1024x1_S1024x32_0_1 main_v22
  let main_v24 : IVec S1024x32 1 := andi main_v19 main_v23
  let main_cst_0 : FVec F S_ .f32 := constant S_ .f32 0xFF800000#32
  let main_v25 : FVec F S1024x32 .f32 := broadcastInDim S1024x32 ![] bcast_S_S1024x32 main_cst_0
  let main_v26 : IVec S1024x32 1 := cmpf .oeq main_v3 main_v25
  let main_v27 : IVec S1024x32 1 := ori main_v24 main_v26
  main_v27

def fn {F : FTy → Type} [FloatOps F] (main_arg0 : FVec F S1024x65536 .f32) : IVec S1024x32 1 :=
  let main_v0 : FVec F S1024x65536 .f32 := Host.negf main_arg0
  let main_v1 : FVec F S1024x65536 .f32 := fn_sort (F := F) main_v0
  let main_v2 : FVec F S1024x32 .f32 := (extractStridedSlice S1024x32 ![0, 0] · slices_S1024x65536_S1024x32_0_0) main_v1
  let main_v3 : FVec F S1024x32 .f32 := Host.negf main_v2
  let main_v4 : FVec F S1024x31 .f32 := (extractStridedSlice S1024x31 ![0, 1] · slices_S1024x32_S1024x31_0_1) main_v3
  let main_v5 : FVec F S1024x31 .f32 := (extractStridedSlice S1024x31 ![0, 0] · slices_S1024x32_S1024x31_0_0) main_v3
  let main_v6 : IVec S1024x31 1 := cmpf .olt main_v4 main_v5
  let main_v7 : IVec S31 32 := iotaInDim S31 32 0
  let main_v8 : IVec S1x31 32 := broadcastInDim S1x31 ![1] bcast_S31_S1x31_1 main_v7
  let main_v9 : IVec S32 32 := iotaInDim S32 32 0
  let main_v10 : IVec S32x1 32 := broadcastInDim S32x1 ![0] bcast_S32_S32x1_0 main_v9
  let main_v11 : IVec S32x31 32 := broadcastInDim S32x31 ![0, 1] bcast_S1x31_S32x31_0_1 main_v8
  let main_v12 : IVec S32x31 32 := broadcastInDim S32x31 ![0, 1] bcast_S32x1_S32x31_0_1 main_v10
  let main_v13 : IVec S32x31 1 := cmpi .sge main_v11 main_v12
  let main_v14 : IVec S1024x1x31 1 := broadcastInDim S1024x1x31 ![0, 2] bcast_S1024x31_S1024x1x31_0_2 main_v6
  let main_v15 : IVec S1x32x31 1 := broadcastInDim S1x32x31 ![1, 2] bcast_S32x31_S1x32x31_1_2 main_v13
  let main_v16 : IVec S1024x32x31 1 := broadcastInDim S1024x32x31 ![0, 1, 2] bcast_S1024x1x31_S1024x32x31_0_1_2 main_v14
  let main_v17 : IVec S1024x32x31 1 := broadcastInDim S1024x32x31 ![0, 1, 2] bcast_S1x32x31_S1024x32x31_0_1_2 main_v15
  let main_v18 : IVec S1024x32x31 1 := ori main_v16 main_v17
  let main_c : IVec S_ 1 := constantI S_ 1 1#1
  let main_v19 : IVec S1024x32 1 := (fun x v => Host.reduce IntOp.andi x v reducesTo_S1024x32x31_S1024x32_d2 h_S_) main_v18 main_c
  let main_v20 : FVec F S1024x1 .f32 := (extractStridedSlice S1024x1 ![0, 0] · slices_S1024x32_S1024x1_0_0) main_v3
  let main_cst : FVec F S_ .f32 := constant S_ .f32 0x7F800000#32
  let main_v21 : FVec F S1024x1 .f32 := broadcastInDim S1024x1 ![] bcast_S_S1024x1 main_cst
  fn_part1 (F := F) main_v3 main_v19 main_v20 main_v21
-- ==== Kernel.lean ====
abbrev S1024x8192 : Shape := ⟨2, ![1024, 8192]⟩
abbrev S1024x32 : Shape := ⟨2, ![1024, 32]⟩
abbrev S8x1024x1024 : Shape := ⟨3, ![8, 1024, 1024]⟩
abbrev S8x1024x32 : Shape := ⟨3, ![8, 1024, 32]⟩
abbrev S8 : Shape := ⟨1, ![8]⟩
abbrev S7 : Shape := ⟨1, ![7]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1024x1 : Shape := ⟨2, ![1024, 1]⟩
abbrev S1024 : Shape := ⟨1, ![1024]⟩
abbrev S1x1024x32 : Shape := ⟨3, ![1, 1024, 32]⟩
abbrev S1x1024x1 : Shape := ⟨3, ![1, 1024, 1]⟩

abbrev nBuf : Space → Nat
  | .hbm => 2
  | .vmem => 3
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x32, .f32⟩
  | .local _ .vmem, ⟨1, _⟩ => ⟨S8x1024x1024, .f32⟩
  | .local _ .vmem, ⟨2, _⟩ => ⟨S8x1024x32, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_40 : BitVec 32 := 1#32
  let v49 : BitVec 32 := Scalar.muli v5 c1_i32_40
  let v50 : BitVec 32 := Scalar.addi c0_i32_41 v49
  v50.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_43 : BitVec 32 := 1#32
  let v51 : BitVec 32 := Scalar.muli v7 c1_i32_43
  let v52 : BitVec 32 := Scalar.addi c0_i32_44 v51
  v52.toNat
@[reducible] def k0_t1_loop : Scf.Loop 32 :=
  let c0_i32_94 : BitVec 32 := 0#32
  let c32_i32 : BitVec 32 := 32#32
  let v95 : BitVec 32 := Scalar.addi c0_i32_94 c32_i32
  let c1_i32_95 : BitVec 32 := 1#32
  ⟨c0_i32_94, v95, c1_i32_95⟩
@[reducible] def k0_t2_loop : Scf.Loop 32 :=
  let c0_i32_290 : BitVec 32 := 0#32
  let c8_i32_291 : BitVec 32 := 8#32
  let v297 : BitVec 32 := Scalar.addi c0_i32_290 c8_i32_291
  let c1_i32_292 : BitVec 32 := 1#32
  ⟨c0_i32_290, v297, c1_i32_292⟩
def k0_off1 (k0_t2 : Fin k0_t2_loop.trips) : Fin 3 → Nat :=
  let c0_i32_290 : BitVec 32 := 0#32
  let c1_i32_292 : BitVec 32 := 1#32
  let arg10 : BitVec 32 := Scf.iv c0_i32_290 c1_i32_292 k0_t2
  let v305 : Index := Scalar.indexCast arg10
  let c0_294 : Index := 0#32
  let c0_295 : Index := 0#32
  ![v305.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : Index := Scalar.indexCast v2
  let c0 : Index := 0#32
  let c0_98 : Index := 0#32
  ![v98.toNat, 0, 0]
def k0_off3 (d0 : Dev nD) (c0_i32_99 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v102 : BitVec 32 := Scalar.subi v2 c0_i32_99
  let c8_i32_100 : BitVec 32 := 8#32
  let v103 : BitVec 32 := Scalar.addi v102 c8_i32_100
  let c8_i32_101 : BitVec 32 := 8#32
  let v104 : BitVec 32 := Scalar.remsi v103 c8_i32_101
  let c0_i32_106 : BitVec 32 := 0#32
  let c0_i32_107 : BitVec 32 := 0#32
  ![v104.toNat, 0, 0]
def k0_dev3 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_104 : BitVec 32 := 1#32
  let v105 : BitVec 32 := Scalar.muli v7 c1_i32_104
  let v106 : BitVec 32 := Scalar.addi c0_i32_105 v105
  v106.toNat
def k0_dev4 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_130 : BitVec 32 := 1#32
  let v132 : BitVec 32 := Scalar.muli v7 c1_i32_130
  let v133 : BitVec 32 := Scalar.addi c0_i32_131 v132
  v133.toNat
def k0_dev5 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_156 : BitVec 32 := 1#32
  let v159 : BitVec 32 := Scalar.muli v7 c1_i32_156
  let v160 : BitVec 32 := Scalar.addi c0_i32_157 v159
  v160.toNat
def k0_dev6 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_182 : BitVec 32 := 1#32
  let v186 : BitVec 32 := Scalar.muli v7 c1_i32_182
  let v187 : BitVec 32 := Scalar.addi c0_i32_183 v186
  v187.toNat
def k0_dev7 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_208 : BitVec 32 := 1#32
  let v213 : BitVec 32 := Scalar.muli v7 c1_i32_208
  let v214 : BitVec 32 := Scalar.addi c0_i32_209 v213
  v214.toNat
def k0_dev8 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_234 : BitVec 32 := 1#32
  let v240 : BitVec 32 := Scalar.muli v7 c1_i32_234
  let v241 : BitVec 32 := Scalar.addi c0_i32_235 v240
  v241.toNat
def k0_dev9 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_260 : BitVec 32 := 1#32
  let v267 : BitVec 32 := Scalar.muli v7 c1_i32_260
  let v268 : BitVec 32 := Scalar.addi c0_i32_261 v267
  v268.toNat
@[reducible] def k0_t3_loop : Scf.Loop 32 :=
  let c0_i32_283 : BitVec 32 := 0#32
  let c32_i32_284 : BitVec 32 := 32#32
  let v293 : BitVec 32 := Scalar.addi c0_i32_283 c32_i32_284
  let c1_i32_285 : BitVec 32 := 1#32
  ⟨c0_i32_283, v293, c1_i32_285⟩
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x65536 : Shape := ⟨2, ![1024, 65536]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x65536, .f32⟩
  | .hbm, ⟨1, _⟩ => ⟨S1024x65536, .f32⟩
  | .hbm, ⟨2, _⟩ => ⟨S1024x65536, .i32⟩
  | .hbm, ⟨3, _⟩ => ⟨S1024x65536, .f32⟩
  | .hbm, ⟨4, _⟩ => ⟨S1024x65536, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.TopK.Loops.lean ====
/-
The three counted loops of the kernel body, each run once over a symbolic trip, with the exact contents
and carried values it leaves. The recursions are stated over any float values.
-/
module

public import proofs.«01_k».proof.Proof.Gen.KernelIdeal.Skeleton
public import Idealize.ShloMosaic.Lib.Scf
public import Idealize.ShloMosaic.Lib.Tactic
public import Idealize.ShloMosaic.Lib.Rounds
public import Idealize.ShloMosaic.Lib.Transfers
public import Idealize.ShloMosaic.Lib.Pipeline.Launch
public import Idealize.ShloMosaic.Lib.Pipeline.Kit

@[expose] public section

set_option maxRecDepth 16384

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the staging pipeline's rounds, the ring's rounds and the local transfers' counters. -/
abbrev UB : Type := URounds (GSem nD τ sig) Bool
abbrev UU : Type := UR sig nD τ × (UB × Counters)

local notation "𝕄" => MT nD τ sig Unit (Elt F) ℕ UU ℕ

abbrev 𝒱₀ : Variants := Variants.none

/-- The operands of the body: the device's columns, the result's staging buffer, the work buffer, the gather buffer. -/
abbrev xM : Memref sig .tc .hbm S1024x8192 .f32 := Memref.whole main_arg0
abbrev oM : Memref sig .tc .vmem S1024x32 .f32 := Memref.whole cc0_stg0_0
abbrev wM : Memref sig .tc .vmem S8x1024x1024 .f32 := Memref.whole cc0_scratch0
abbrev gM : Memref sig .tc .vmem S8x1024x32 .f32 := Memref.whole cc0_scratch1

/-- Contents of the work buffer and of the gather buffer. -/
abbrev WorkC (F : FTy → Type) : Type := (cc0_scratch0 : Ref sig .tc).ty.Contents (Elt F)
abbrev GathC (F : FTy → Type) : Type := (cc0_scratch1 : Ref sig .tc).ty.Contents (Elt F)
abbrev OutC (F : FTy → Type) : Type := (cc0_stg0_0 : Ref sig .tc).ty.Contents (Elt F)

/-- Slot `t` of the work buffer, as the inner loop addresses it. -/
abbrev wR (t : Fin k0_t2_loop.trips) : Rect S8x1024x1024 :=
  Rect.unit (s := S8x1024x1024) (k0_off1 t) S1x1024x1024.size (k0_off1_inb t)
/-- The whole gather buffer, as the last loop addresses it. -/
abbrev gR : Rect S8x1024x32 := Rect.unit (s := S8x1024x32) ![0, 0, 0] S8x1024x32.size inb_S8x1024x32_S8x1024x32_0_0_0

/-- What the inner loop reads of slot `t`. -/
def rdSlot (t : Fin k0_t2_loop.trips) (w : WorkC F) : Vec F S1x1024x1024 .f32 := wM.view.readAt (Elt F) (wR t).toLoadRect w
/-- The work buffer with slot `t` replaced. -/
def wrSlot (t : Fin k0_t2_loop.trips) (w : WorkC F) (v : Vec F S1x1024x1024 .f32) : WorkC F :=
  ((wM.access (wR t) : View sig .tc _ _ _).write (Elt F) w v Finset.univ : WorkC F)

/-- The work buffer and the carried maximum before trip `n` of the inner loop, the maximum struck out being `prev`. -/
def inner (prev : FVec F S1024x1 .f32) (w : WorkC F) : ℕ → WorkC F × FVec F S1024x1 .f32
  | 0 => (w, k0_pay9)
  | n + 1 =>
    let s := inner prev w n
    if h : n < k0_t2_loop.trips then
      (wrSlot ⟨n, h⟩ s.1 (k0_pay11 prev (rdSlot ⟨n, h⟩ s.1)), k0_pay12 prev s.2 (rdSlot ⟨n, h⟩ s.1))
    else s

theorem inner_succ (prev : FVec F S1024x1 .f32) (w : WorkC F) (t : Fin k0_t2_loop.trips) :
    inner prev w (t.val + 1) = (wrSlot t (inner prev w t.val).1 (k0_pay11 prev (rdSlot t (inner prev w t.val).1)),
      k0_pay12 prev (inner prev w t.val).2 (rdSlot t (inner prev w t.val).1)) := by
  rw [inner, dif_pos t.isLt]

/-- The work buffer, the list so far and the last maximum before trip `n` of the outer loop. -/
def outer (w : WorkC F) : ℕ → WorkC F × FVec F S1024x32 .f32 × FVec F S1024x1 .f32
  | 0 => (w, k0_pay7, k0_pay8)
  | n + 1 =>
    let s := outer w n
    if h : n < k0_t1_loop.trips then
      let r := inner s.2.2 s.1 k0_t2_loop.trips
      (r.1, k0_pay13 ⟨n, h⟩ s.2.1 r.2, r.2)
    else s

theorem outer_succ (w : WorkC F) (t : Fin k0_t1_loop.trips) :
    outer w (t.val + 1) = ((inner (outer w t.val).2.2 (outer w t.val).1 k0_t2_loop.trips).1,
      k0_pay13 t (outer w t.val).2.1 (inner (outer w t.val).2.2 (outer w t.val).1 k0_t2_loop.trips).2,
      (inner (outer w t.val).2.2 (outer w t.val).1 k0_t2_loop.trips).2) := by
  rw [outer, dif_pos t.isLt]

/-- The gather buffer, the list so far and the last maximum before trip `n` of the last loop. -/
def merge (g : GathC F) : ℕ → GathC F × FVec F S1024x32 .f32 × FVec F S1x1024x1 .f32
  | 0 => (g, k0_pay1, k0_pay2)
  | n + 1 =>
    let s := merge g n
    if h : n < k0_t3_loop.trips then (k0_pay4 s.2.2 s.1, k0_pay6 ⟨n, h⟩ s.2.1 s.2.2 s.1, k0_pay5 s.2.2 s.1) else s

theorem merge_succ (g : GathC F) (t : Fin k0_t3_loop.trips) :
    merge g (t.val + 1) = (k0_pay4 (merge g t.val).2.2 (merge g t.val).1,
      k0_pay6 t (merge g t.val).2.1 (merge g t.val).2.2 (merge g t.val).1, k0_pay5 (merge g t.val).2.2 (merge g t.val).1) := by
  rw [merge, dif_pos t.isLt]

section Runs

variable (c : Dev nD)

/-- The work buffer and the gather buffer of device `c`, whole. -/
def workAt (w : WorkC F) : sProp 𝕄 := ((c : Thread nD τ).loc cc0_scratch0) ↦{fullShare} w
def gathAt (g : GathC F) : sProp 𝕄 := ((c : Thread nD τ).loc cc0_scratch1) ↦{fullShare} g

/-- One trip of the inner loop. -/
theorem wp_inner_trip (d0 : Dev nD) (v2 : BitVec 32) (v48 : Sems sig S_) (prev acc : FVec F S1024x1 .f32) (w : WorkC F)
    (t : Fin k0_t2_loop.trips) {Q : FVec F S1024x1 .f32 → sProp 𝕄} :
    iprop(workAt c w ∗ (workAt c (wrSlot t w (k0_pay11 prev (rdSlot t w))) -∗ Q (k0_pay12 prev acc (rdSlot t w))))
      ⊢ wp frame (wpE (defs₀ (F := F)) 𝒱₀ (c : Thread nD τ) none) Set.univ
          (k0_t2_body xM (Memref.isWhole_whole _) oM (Memref.isWhole_whole _) wM (Memref.isWhole_whole _) gM (Memref.isWhole_whole _)
              cc0_scratch2 cc0_scratch3 cc0_scratch4 d0 v2 v48 prev t acc) Q := by
  unfold k0_t2_body workAt wrSlot rdSlot
  simp only [Prog.lift, Prog.bind_op, Prog.bind_ret, Prog.pure_eq_ret]
  iintro ⟨Hw, Hk⟩
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_store 𝒱₀ (c : Thread nD τ) none Set.univ (m := wM) (r := wR t) (Mk := Finset.univ) (Finset.subset_univ _)) $$ Hw; iintro Hw
  rw [wp_ret]; imodintro
  iapply Hk
  iexact Hw

/-- The inner loop: from the work buffer `w` to what eight trips make of it and of the carried maximum. -/
theorem wp_inner (d0 : Dev nD) (v2 : BitVec 32) (v48 : Sems sig S_) (prev : FVec F S1024x1 .f32) (w : WorkC F)
    {Q : FVec F S1024x1 .f32 → sProp 𝕄} :
    iprop(workAt c w ∗ (workAt c (inner prev w k0_t2_loop.trips).1 -∗ Q (inner prev w k0_t2_loop.trips).2))
      ⊢ wp frame (wpE (defs₀ (F := F)) 𝒱₀ (c : Thread nD τ) none) Set.univ
          (Scf.Loop.for k0_t2_loop k0_t2_ok (k0_pay9 (F := F))
            (k0_t2_body xM (Memref.isWhole_whole _) oM (Memref.isWhole_whole _) wM (Memref.isWhole_whole _) gM (Memref.isWhole_whole _)
              cc0_scratch2 cc0_scratch3 cc0_scratch4 d0 v2 v48 prev)) Q := by
  have trip : ∀ (t : Fin k0_t2_loop.trips) (acc : FVec F S1024x1 .f32),
      (iprop(⌜acc = (inner prev w t.val).2⌝ ∗ workAt c (inner prev w t.val).1) : sProp 𝕄)
        ⊢ wp frame (wpE (defs₀ (F := F)) 𝒱₀ (c : Thread nD τ) none) Set.univ
          (k0_t2_body xM (Memref.isWhole_whole _) oM (Memref.isWhole_whole _) wM (Memref.isWhole_whole _) gM (Memref.isWhole_whole _)
              cc0_scratch2 cc0_scratch3 cc0_scratch4 d0 v2 v48 prev t acc)
          (fun acc => iprop(⌜acc = (inner prev w (t.val + 1)).2⌝ ∗ workAt c (inner prev w (t.val + 1)).1)) := by
    intro t acc
    rw [inner_succ]
    iintro ⟨%hacc, Hw⟩
    subst hacc
    iapply (wp_inner_trip c d0 v2 v48 prev (inner prev w t.val).2 (inner prev w t.val).1 t)
    isplitl [Hw]; · iexact Hw
    iintro Hw
    isplitr; · (ipureintro; rfl)
    iexact Hw
  iintro ⟨Hw, Hk⟩
  iapply (Scf.wp_for frame (wpE (defs₀ (F := F)) 𝒱₀ (c : Thread nD τ) none) Set.univ _ _ _ _ _ _
    (fun n acc => iprop(⌜acc = (inner prev w n).2⌝ ∗ workAt c (inner prev w n).1)) trip)
  isplitl [Hw]
  · isplitr; · (ipureintro; rfl)
    iexact Hw
  · iintro %acc ⟨%hacc, Hw⟩
    subst hacc
    iapply Hk; iexact Hw

/-- The outer loop: from the work buffer `w` to what thirty-two trips make of it and of the list. -/
theorem wp_outer (d0 : Dev nD) (v2 : BitVec 32) (v48 : Sems sig S_) (w : WorkC F)
    {Q : FVec F S1024x32 .f32 × FVec F S1024x1 .f32 → sProp 𝕄} :
    iprop(workAt c w ∗ (workAt c (outer w k0_t1_loop.trips).1 -∗ Q (outer w k0_t1_loop.trips).2))
      ⊢ wp frame (wpE (defs₀ (F := F)) 𝒱₀ (c : Thread nD τ) none) Set.univ
          (Scf.Loop.for k0_t1_loop k0_t1_ok (k0_pay7 (F := F), k0_pay8 (F := F))
            (k0_t1_body xM (Memref.isWhole_whole _) oM (Memref.isWhole_whole _) wM (Memref.isWhole_whole _) gM (Memref.isWhole_whole _)
              cc0_scratch2 cc0_scratch3 cc0_scratch4 d0 v2 v48)) Q := by
  iintro ⟨Hw, Hk⟩
  iapply (Scf.wp_for frame (wpE (defs₀ (F := F)) 𝒱₀ (c : Thread nD τ) none) Set.univ _ _ _ _ _ _
    (fun n acc => iprop(⌜acc = (outer w n).2⌝ ∗ workAt c (outer w n).1)) (by
      intro t acc
      iintro ⟨%hacc, Hw⟩
      subst hacc
      unfold k0_t1_body
      rw [wp_bind]
      iapply (wp_inner c d0 v2 v48 (outer w t.val).2.2 (outer w t.val).1)
      isplitl [Hw]; · iexact Hw
      iintro Hw
      rw [Prog.pure_eq_ret, wp_ret]; imodintro
      rw [outer_succ]
      isplitr; · (ipureintro; rfl)
      iexact Hw))
  isplitl [Hw]
  · isplitr; · (ipureintro; rfl)
    iexact Hw
  · iintro %acc ⟨%hacc, Hw⟩
    subst hacc
    iapply Hk; iexact Hw

theorem rd_gath (g : GathC F) : gM.view.readAt (Elt F) gR.toLoadRect g = g :=
  Memref.readAt_unit_zero (Elt F) cc0_scratch1 (funext fun a => by fin_cases a <;> rfl) _ g
theorem wr_gath (g v : GathC F) : ((gM.access gR : View sig .tc _ _ _).write (Elt F) g v Finset.univ : GathC F) = v :=
  Memref.write_access_unit_zero_univ (Elt F) cc0_scratch1 (funext fun a => by fin_cases a <;> rfl) _ g v

/-- The last loop: from the gather buffer `g` to what thirty-two trips make of it and of the list. -/
theorem wp_merge (g : GathC F) {Q : FVec F S1024x32 .f32 × FVec F S1x1024x1 .f32 → sProp 𝕄} :
    iprop(gathAt c g ∗ (gathAt c (merge g k0_t3_loop.trips).1 -∗ Q (merge g k0_t3_loop.trips).2))
      ⊢ wp frame (wpE (defs₀ (F := F)) 𝒱₀ (c : Thread nD τ) none) Set.univ
          (Scf.Loop.for k0_t3_loop k0_t3_ok (k0_pay1 (F := F), k0_pay2 (F := F))
            (k0_t3_body xM (Memref.isWhole_whole _) oM (Memref.isWhole_whole _) wM (Memref.isWhole_whole _) gM (Memref.isWhole_whole _)
              cc0_scratch2 cc0_scratch3 cc0_scratch4)) Q := by
  iintro ⟨Hg, Hk⟩
  iapply (Scf.wp_for frame (wpE (defs₀ (F := F)) 𝒱₀ (c : Thread nD τ) none) Set.univ _ _ _ _ _ _
    (fun n acc => iprop(⌜acc = (merge g n).2⌝ ∗ gathAt c (merge g n).1)) (by
      intro t acc
      iintro ⟨%hacc, Hg⟩
      subst hacc
      unfold k0_t3_body gathAt
      simp only [Prog.lift, Prog.bind_op, Prog.bind_ret, Prog.pure_eq_ret]
      iapply (wp_load 𝒱₀ (c : Thread nD τ) none Set.univ (m := gM) (Finset.subset_univ _)) $$ Hg; iintro Hg
      iapply (wp_load 𝒱₀ (c : Thread nD τ) none Set.univ (m := gM) (Finset.subset_univ _)) $$ Hg; iintro Hg
      iapply (wp_store 𝒱₀ (c : Thread nD τ) none Set.univ (m := gM) (r := gR) (Mk := Finset.univ) (Finset.subset_univ _)) $$ Hg; iintro Hg
      rw [wp_ret]; imodintro
      rw [rd_gath, wr_gath, merge_succ]
      isplitr; · (ipureintro; rfl)
      iexact Hg))
  isplitl [Hg]
  · isplitr; · (ipureintro; rfl)
    iexact Hg
  · iintro %acc ⟨%hacc, Hg⟩
    subst hacc
    iapply Hk; iexact Hg

end Runs

end Cert.TopK

end
-- ==== Proof.TopK.Ring.lean ====
/-
The ring of eight devices as a schedule of rounds: the barrier cell, seven departure cells and seven arrival
cells of each device, what each of them hands over, what a device owes at launch and in which order it waits.
-/
module

public import proofs.«01_k».proof.Proof.TopK.Loops
public import proofs.«01_k».proof.Proof.Gen.KernelIdeal.Launch

@[expose] public section

set_option maxRecDepth 16384

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Where the staging pipeline's rounds and the ring's rounds live in the algebra. -/
abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The slot of the gather buffer device `c` sends at hop `h`: the list of the device `h` places before it. -/
def sl (c : Dev nD) (h : Fin 8) : Dev nD := ⟨(c.val + 8 - h.val) % 8, Nat.mod_lt _ (by decide)⟩

theorem sl_zero (c : Dev nD) : sl c 0 = c := by revert c; decide
/-- What arrives at hop `h` is what is sent at hop `h + 1`. -/
theorem sl_prv (c : Dev nD) (h : Fin 7) : sl (prv c) h.castSucc = sl c h.succ := by revert c h; decide
theorem sl_injective (c : Dev nD) : Function.Injective (sl c) := by revert c; decide
theorem sl_surjective (c s : Dev nD) : ∃ h, sl c h = s := by revert c s; decide

/-! ## The cells -/

/-- The barrier semaphore, and hop `h`'s departure and arrival semaphores. -/
abbrev barS : Sem sig := (SemArray.scalar (sig.barrier 0 rfl) : Sems sig S_).sem
theorem inb_hop (h : Fin 7) : ∀ a, (![h.val] : Fin 1 → ℕ) a + S1.size a ≤ S7.size a := by revert h; decide
abbrev sendS (h : Fin 7) : DmaSem sig := ((cc0_scratch3.slice (Rect.unit (s := S7) ![h.val] S1.size (inb_hop h))).squeeze S_ squeezes_S1_S_).sem
abbrev recvS (h : Fin 7) : DmaSem sig := ((cc0_scratch4.slice (Rect.unit (s := S7) ![h.val] S1.size (inb_hop h))).squeeze S_ squeezes_S1_S_).sem
theorem inb_tile (t : Fin 8) : ∀ a, (![t.val] : Fin 1 → ℕ) a + S1.size a ≤ S8.size a := by revert t; decide
abbrev copyS (t : Fin 8) : DmaSem sig := ((cc0_scratch2.slice (Rect.unit (s := S8) ![t.val] S1.size (inb_tile t))).squeeze S_ squeezes_S1_S_).sem

theorem copyS_val (t : Fin 8) : (copyS t).val = 1 + t.val := by revert t; decide
theorem sendS_val (h : Fin 7) : (sendS h).val = 9 + h.val := by revert h; decide
theorem recvS_val (h : Fin 7) : (recvS h).val = 16 + h.val := by revert h; decide

abbrev barCell (c : Dev nD) : GSem nD τ sig := ((c : Thread nD τ), .reg barS)
abbrev sendCell (c : Dev nD) (h : Fin 7) : GSem nD τ sig := ((c : Thread nD τ), .dma (sendS h))
abbrev recvCell (c : Dev nD) (h : Fin 7) : GSem nD τ sig := ((c : Thread nD τ), .dma (recvS h))

/-- The ring's fifteen cells of a device: the barrier, the departures (`false`) and the arrivals (`true`). -/
abbrev KI : Type := Option (Bool × Fin 7)
def csem : KI → SemLoc sig
  | none => .reg barS
  | some (false, h) => .dma (sendS h)
  | some (true, h) => .dma (recvS h)
abbrev kcell (ck : Dev nD × KI) : GSem nD τ sig := ((ck.1 : Thread nD τ), csem ck.2)

theorem csem_injective : Function.Injective csem := by
  rintro (_ | ⟨_ | _, h⟩) (_ | ⟨_ | _, h'⟩) e
  · rfl
  · exact absurd e (fun h => by cases h)
  · exact absurd e (fun h => by cases h)
  · exact absurd e (fun h => by cases h)
  · have := congrArg Fin.val (SemLoc.dma.inj e); rw [sendS_val, sendS_val] at this
    rw [show h = h' from Fin.ext (by omega)]
  · have := congrArg Fin.val (SemLoc.dma.inj e); rw [sendS_val, recvS_val] at this; omega
  · exact absurd e (fun h => by cases h)
  · have := congrArg Fin.val (SemLoc.dma.inj e); rw [sendS_val, recvS_val] at this; omega
  · have := congrArg Fin.val (SemLoc.dma.inj e); rw [recvS_val, recvS_val] at this
    rw [show h = h' from Fin.ext (by omega)]

theorem kcell_injective : Function.Injective (kcell : Dev nD × KI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## The slots of the gather buffer -/

/-- The slot's memref, as the program names it at hop `h`. -/
abbrev slotM (c : Dev nD) (h : Fin 7) : Memref sig .tc .vmem S1024x32 .f32 :=
  (gM.slice (Rect.unit (s := S8x1024x32) (k0_off3 c (BitVec.ofNat 32 h.val)) S1x1024x32.size (k0_off3_inb c h)) (fun _ => rfl)).squeeze S1024x32 squeezes_S1x1024x32_S1024x32

/-- The elements of slot `s` of the gather buffer. -/
def slotSet (s : Dev nD) : Finset ((cc0_scratch1 : Ref sig .tc).ty.Idx) :=
  Finset.univ.filter fun i : S8x1024x32.Idx => (i 0).val = s.val

theorem mem_slotSet (s : Dev nD) (i : S8x1024x32.Idx) : i ∈ slotSet s ↔ (i 0).val = s.val := by
  unfold slotSet; rw [Finset.mem_filter]; exact ⟨fun h => h.2, fun h => ⟨Finset.mem_univ _, h⟩⟩

theorem mem_slotRect (s : Dev nD) (off : Fin 3 → ℕ) (inb) (h : off = ![s.val, 0, 0]) (i : S8x1024x32.Idx) :
    i ∈ (Rect.unit (s := S8x1024x32) off S1x1024x32.size inb).set ↔ (i 0).val = s.val := by
  subst h
  rw [Rect.mem_set_unit]
  refine ⟨fun hi => ?_, fun hi a => ?_⟩
  · have h0 := hi 0
    have : s.val ≤ (i 0).val ∧ (i 0).val < s.val + 1 := h0
    omega
  · fin_cases a
    · show s.val ≤ (i 0).val ∧ (i 0).val < s.val + 1
      omega
    · show 0 ≤ (i 1).val ∧ (i 1).val < 0 + 1024
      have : (i 1).val < 1024 := (i 1).isLt
      omega
    · show 0 ≤ (i 2).val ∧ (i 2).val < 0 + 32
      have : (i 2).val < 32 := (i 2).isLt
      omega

theorem slotM_set (c : Dev nD) (h : Fin 7) : (slotM c h).view.set = slotSet (sl c h.castSucc) := by
  rw [Memref.set_view_squeeze]
  ext i
  have e : ((gM.slice (Rect.unit (s := S8x1024x32) (k0_off3 c (BitVec.ofNat 32 h.val)) S1x1024x32.size (k0_off3_inb c h)) (fun _ => rfl)).view.set)
      = (Rect.unit (s := S8x1024x32) (k0_off3 c (BitVec.ofNat 32 h.val)) S1x1024x32.size (k0_off3_inb c h)).set := View.set_slice_whole _ _
  rw [e]
  exact (mem_slotRect (sl c h.castSucc) _ _ (k0_off3_eq c h) i).trans (mem_slotSet _ _).symm

theorem slotSet_disjoint {s s' : Dev nD} (h : s ≠ s') : Disjoint (slotSet s) (slotSet s') := by
  rw [Finset.disjoint_left]
  intro i hi hi'
  exact h (Fin.ext (((mem_slotSet _ _).mp hi).symm.trans ((mem_slotSet _ _).mp hi')))

theorem slotSet_cover (c : Dev nD) : (Finset.univ : Finset (Fin 8)).biUnion (fun h => slotSet (sl c h)) = Finset.univ := by
  ext i
  rw [Finset.mem_biUnion]
  refine ⟨fun _ => Finset.mem_univ _, fun _ => ?_⟩
  have hi : (i 0).val < 8 := (i 0).isLt
  obtain ⟨h, hh⟩ := sl_surjective c ⟨(i 0).val, hi⟩
  exact ⟨h, Finset.mem_univ _, by rw [hh]; exact (mem_slotSet _ _).mpr rfl⟩

/-- Slot `s` of device `c`'s gather buffer, at contents `g`. -/
def slotAt (c s : Dev nD) (g : GathC F) : sProp 𝕄 := ((c : Thread nD τ).loc cc0_scratch1) ↦[slotSet s]{fullShare} g

omit [FloatOps F] in
instance slotAt_storable (c s : Dev nD) (g : GathC F) : BI.Storable (upEmb : UEmb _ 𝕄) (slotAt (F := F) c s g) := by unfold slotAt; infer_instance

omit [FloatOps F] in
/-- The gather buffer is its eight slots, named from any device on. -/
theorem gathAt_slots (c d : Dev nD) (g : GathC F) : gathAt d g = (bigSep Finset.univ fun h : Fin 8 => slotAt d (sl c h) g : sProp 𝕄) := by
  unfold gathAt slotAt
  rw [← slotSet_cover c]
  exact pointsTo_biUnion _ _ fun h _ h' _ hne => slotSet_disjoint fun e => hne (sl_injective c e)

/-- The amount a slot's transfer credits. -/
abbrev N : ℕ := (slotM (0 : Dev nD) 0).view.dmaCredit
theorem N_pos : 0 < N := View.dmaCredit_pos _ (by decide)

/-! ## The schedule -/

section Schedule

variable (G : GathC F)

/-- What the next device's barrier signal hands `c`: the next device's slots that `c` will fill. -/
def barPay (c : Dev nD) : sProp 𝕄 := iprop(∃ f, bigSep Finset.univ fun h : Fin 7 => slotAt (nxt c) (sl c h.castSucc) f)
def sendPay (c : Dev nD) (h : Fin 7) : sProp 𝕄 := slotAt c (sl c h.castSucc) G
def recvPay (c : Dev nD) (h : Fin 7) : sProp 𝕄 := slotAt c (sl c h.succ) G

omit [FloatOps F] in
instance barPay_storable (c : Dev nD) : BI.Storable (upEmb : UEmb _ 𝕄) (barPay (F := F) c) := by unfold barPay; infer_instance

/-- What a cell's one round hands over, by the cell's index. -/
def payK (c : Dev nD) (d : Bool) : KI → sProp 𝕄
  | none => if d then barPay c else iprop(emp)
  | some (false, h) => sendPay G c h
  | some (true, h) => recvPay G c h

omit [FloatOps F] in
instance payK_storable (c : Dev nD) (d : Bool) (k : KI) : BI.Storable (upEmb : UEmb _ 𝕄) (payK G c d k) := by
  rcases k with _ | ⟨_ | _, h⟩
  · cases d
    · show BI.Storable (upEmb : UEmb _ 𝕄) iprop(emp); infer_instance
    · exact barPay_storable c
  · exact slotAt_storable _ _ _
  · exact slotAt_storable _ _ _

open Classical in
/-- The index of a semaphore among the ring's, if it is one of them. -/
def kOf (s : SemLoc sig) : Option KI := if h : ∃ k, csem k = s then some h.choose else none

theorem kOf_csem (k : KI) : kOf (csem k) = some k := by
  unfold kOf
  have h : ∃ k', csem k' = csem k := ⟨k, rfl⟩
  rw [dif_pos h]
  exact congrArg some (csem_injective h.choose_spec)

/-- The duties of a ring cell: the barrier has two (one per neighbour), a transfer cell one. -/
def dutK : KI → Finset Bool
  | none => Finset.univ
  | some _ => {false}
def amtK : KI → ℕ
  | none => 1
  | some _ => N

/-- One round per cell. -/
def ringRd : Rounds.Schedule (GSem nD τ sig) Bool 𝕄 where
  duties g r := if r = 0 ∧ g.1.2 = .tc then ((kOf g.2).map dutK).getD ∅ else ∅
  unitless _ := False
  amount g _ _ := ((kOf g.2).map amtK).getD 1
  payload g _ d := ((kOf g.2).map (payK G g.1.1 d)).getD iprop(emp)
  amount_pos g _ _ _ := by
    rcases kOf g.2 with _ | _ | _
    · exact Nat.one_pos
    · exact Nat.one_pos
    · exact N_pos

omit [FloatOps F] in
instance ringRd_payload_storable (g : GSem nD τ sig) (r : ℕ) (d : Bool) :
    BI.Storable (upEmb : UEmb _ 𝕄) ((ringRd (F := F) G).payload g r d) := by
  show BI.Storable upEmb (((kOf g.2).map (payK G g.1.1 d)).getD iprop(emp))
  rcases kOf g.2 with _ | k
  · show BI.Storable upEmb iprop(emp); infer_instance
  · show BI.Storable upEmb (payK G g.1.1 d k); infer_instance

section Tables
variable (c : Dev nD)

omit [FloatOps F] in
theorem duties_k (k : KI) : (ringRd (F := F) G).duties (kcell (c, k)) 0 = dutK k := by
  dsimp only [ringRd]; rw [if_pos ⟨rfl, rfl⟩, kOf_csem]; rfl
omit [FloatOps F] in
theorem duties_later (g : GSem nD τ sig) : ∀ r, 1 ≤ r → (ringRd (F := F) G).duties g r = ∅ :=
  fun r hr => by dsimp only [ringRd]; rw [if_neg fun h => by omega]
omit [FloatOps F] in
theorem amount_k (k : KI) (d : Bool) : (ringRd (F := F) G).amount (kcell (c, k)) 0 d = amtK k := by
  dsimp only [ringRd]; rw [kOf_csem]; rfl
omit [FloatOps F] in
theorem payload_k (k : KI) (d : Bool) : (ringRd (F := F) G).payload (kcell (c, k)) 0 d = payK G c d k := by
  dsimp only [ringRd]; rw [kOf_csem]; rfl

omit [FloatOps F] in
theorem expect_bar : (ringRd (F := F) G).expect (barCell c) 0 = 2 := by
  unfold Schedule.expect Schedule.amountOf
  rw [show barCell c = kcell (c, none) from rfl, duties_k G c none, Finset.sum_congr rfl fun d _ => amount_k G c none d]; rfl
omit [FloatOps F] in
theorem expect_x (x : Bool × Fin 7) : (ringRd (F := F) G).expect (kcell (c, some x)) 0 = N := by
  unfold Schedule.expect Schedule.amountOf
  rw [duties_k G c (some x), Finset.sum_congr rfl fun d _ => amount_k G c (some x) d]
  exact Finset.sum_singleton _ _

omit [FloatOps F] in
/-- The barrier's whole round: nothing from the device before, the next device's slots. -/
theorem rest_bar : bigSep ((ringRd (F := F) G).duties (barCell c) 0 \ ∅) (fun d => (ringRd (F := F) G).payload (barCell c) 0 d) = iprop(emp ∗ barPay c) := by
  rw [show barCell c = kcell (c, none) from rfl, Finset.sdiff_empty, duties_k G c none, show dutK none = Finset.univ from rfl,
    bigSep_univ_eq_bigSepL [false, true] (by decide) (by decide), bigSepL_cons_cons, bigSepL_singleton,
    payload_k G c none, payload_k G c none]
  rfl
omit [FloatOps F] in
theorem rest_x (x : Bool × Fin 7) :
    bigSep ((ringRd (F := F) G).duties (kcell (c, some x)) 0 \ ∅) (fun d => (ringRd (F := F) G).payload (kcell (c, some x)) 0 d) = payK G c false (some x) := by
  rw [Finset.sdiff_empty, duties_k G c (some x), show dutK (some x) = {false} from rfl, bigSep_singleton, payload_k]

end Tables

end Schedule

/-! ## What a device owes, and the levels -/

/-- What `c` still owes before hop `n`: the arrivals of the hops from `n` on at the next device. -/
def owedFrom (c : Dev nD) (n : ℕ) : CellTallies nD τ sig Unit :=
  ∑ h ∈ Finset.univ.filter (fun h : Fin 7 => n ≤ h.val), tallyAt (recvCell (nxt c) h) () N
/-- At launch also one unit at each neighbour's barrier. -/
def O₁ (c : Dev nD) : CellTallies nD τ sig Unit := owedFrom c 0 + tallyAt (barCell (nxt c)) () 1
def O₀ (c : Dev nD) : CellTallies nD τ sig Unit := O₁ c + tallyAt (barCell (prv c)) () 1

theorem owedFrom_step (c : Dev nD) (h : Fin 7) : owedFrom c h.val = owedFrom c (h.val + 1) + tallyAt (recvCell (nxt c) h) () N := by
  unfold owedFrom
  have e : Finset.univ.filter (fun h' : Fin 7 => h.val ≤ h'.val) = insert h (Finset.univ.filter (fun h' : Fin 7 => h.val + 1 ≤ h'.val)) := by
    revert h; decide
  rw [e, Finset.sum_insert (by simp), add_comm]

theorem owedFrom_end (c : Dev nD) : owedFrom c 7 = 0 := by
  unfold owedFrom
  rw [show Finset.univ.filter (fun h : Fin 7 => 7 ≤ h.val) = ∅ from by decide, Finset.sum_empty]

theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

theorem sum_tally_pos {g : GSem nD τ sig} {u : Unit} {S : Finset (Fin 7)} {f : Fin 7 → GSem nD τ sig} :
    0 < (∑ h ∈ S, (tallyAt (f h) () N : CellTallies nD τ sig Unit)) g u → ∃ h ∈ S, g = f h := by
  induction S using Finset.induction_on with
  | empty => intro h; rw [Finset.sum_empty] at h; exact absurd h (Nat.lt_irrefl 0)
  | insert a S ha ih =>
    intro h
    rw [Finset.sum_insert ha, Pi.add_apply, Finsupp.add_apply] at h
    by_cases h1 : 0 < (tallyAt (f a) () N : CellTallies nD τ sig Unit) g u
    · exact ⟨a, Finset.mem_insert_self _ _, tally_pos h1⟩
    · obtain ⟨b, hb, e⟩ := ih (by omega)
      exact ⟨b, Finset.mem_insert_of_mem hb, e⟩

theorem owedFrom_pos {c : Dev nD} {n : ℕ} {g : GSem nD τ sig} {u : Unit} (h : 0 < owedFrom c n g u) :
    ∃ j : Fin 7, n ≤ j.val ∧ g = recvCell (nxt c) j := by
  obtain ⟨j, hj, e⟩ := sum_tally_pos h
  exact ⟨j, (Finset.mem_filter.mp hj).2, e⟩

theorem O₀_pos {c : Dev nD} {g : GSem nD τ sig} {u : Unit} (h : 0 < O₀ c g u) :
    (∃ j : Fin 7, g = recvCell (nxt c) j) ∨ g = barCell (nxt c) ∨ g = barCell (prv c) := by
  unfold O₀ O₁ at h
  rw [Pi.add_apply, Finsupp.add_apply, Pi.add_apply, Finsupp.add_apply] at h
  by_cases h1 : 0 < owedFrom c 0 g u
  · obtain ⟨j, -, e⟩ := owedFrom_pos h1
    exact .inl ⟨j, e⟩
  by_cases h2 : 0 < (tallyAt (barCell (nxt c)) () 1 : CellTallies nD τ sig Unit) g u
  · exact .inr (.inl (tally_pos h2))
  · exact .inr (.inr (tally_pos (g' := barCell (prv c)) (n := 1) (u := u) (by omega)))

def L (g : GSem nD τ sig) : Finset Unit := if g.1.2 = .tc then {()} else ∅
/-- Staging and local copies lowest, then the barrier, then the arrivals hop by hop. -/
def lv (g : GSem nD τ sig) (_ : Unit) : ℕ := match g.2 with
  | .reg _ => 1
  | .dma q => q.val - 14

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (h : Fin 7) : lv (recvCell c h) () = 2 + h.val := by
  show (recvS h).val - 14 = _; rw [recvS_val]; omega
theorem lv_send (c : Dev nD) (h : Fin 7) : lv (sendCell c h) () ≤ 1 := by
  show (sendS h).val - 14 ≤ _; rw [sendS_val]; omega

omit [FloatOps F] in
/-- A device may wait at any of its cells that is below all it owes. -/
theorem mayWait_of (c : Dev nD) (sm : SemLoc sig) (O : CellTallies nD τ sig Unit) (n : ℕ) (hn : lv ((c : Thread nD τ), sm) () ≤ n)
    (hO : ∀ g u, 0 < O g u → ∃ d : Dev nD, ∃ s, g = ((d : Thread nD τ), s) ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, s, rfl, -⟩ := hO g u hg; rw [L_tc]; exact Finset.mem_singleton_self _)
    (fun p hp => by rw [Finset.mem_singleton.mp hp]; exact hn)
    (fun g u hg => by obtain ⟨d, s, -, h⟩ := hO g u hg; exact h)

omit [FloatOps F] in
/-- Staging cells and copy cells are below everything owed at launch. -/
theorem mayWait_low (c : Dev nD) (q : DmaSem sig) (hq : q.val ≤ 14) :
    (levAts L lv : sProp 𝕄) ⊢ MayWait (c : Thread nD τ) (.dma q) () (O₀ c) :=
  mayWait_of c _ _ 0 (show q.val - 14 ≤ 0 by omega) fun g u hg => by
    rcases O₀_pos hg with ⟨j, rfl⟩ | rfl | rfl
    · exact ⟨_, _, rfl, by rw [lv_recv]; omega⟩
    · exact ⟨_, _, rfl, Nat.one_pos⟩
    · exact ⟨_, _, rfl, Nat.one_pos⟩

omit [FloatOps F] in
theorem mayWait_low_from (c : Dev nD) (q : DmaSem sig) (hq : q.val ≤ 15) (n : ℕ) :
    (levAts L lv : sProp 𝕄) ⊢ MayWait (c : Thread nD τ) (.dma q) () (owedFrom c n) :=
  mayWait_of c _ _ 1 (show q.val - 14 ≤ 1 by omega) fun g u hg => by
    obtain ⟨j, -, rfl⟩ := owedFrom_pos hg
    exact ⟨_, _, rfl, by rw [lv_recv]; omega⟩

omit [FloatOps F] in
theorem mayWait_bar (c : Dev nD) : (levAts L lv : sProp 𝕄) ⊢ MayWait (c : Thread nD τ) (.reg barS) () (owedFrom c 0) :=
  mayWait_of c _ _ 1 (Nat.le_refl 1) fun g u hg => by
    obtain ⟨j, -, rfl⟩ := owedFrom_pos hg
    exact ⟨_, _, rfl, by rw [lv_recv]; omega⟩

omit [FloatOps F] in
theorem mayWait_recv (c : Dev nD) (h : Fin 7) : (levAts L lv : sProp 𝕄) ⊢ MayWait (c : Thread nD τ) (.dma (recvS h)) () (owedFrom c (h.val + 1)) :=
  mayWait_of c _ _ (2 + h.val) (le_of_eq (lv_recv c h)) fun g u hg => by
    obtain ⟨j, hj, rfl⟩ := owedFrom_pos hg
    exact ⟨_, _, rfl, by rw [lv_recv]; omega⟩

end Cert.TopK

end
-- ==== Proof.TopK.Hop.lean ====
/-
One hop of the ring: a device sends a slot of its gather buffer to the same slot of the next device, waits until
it has left, and waits until the slot of the device before has arrived.
-/
module

public import proofs.«01_k».proof.Proof.TopK.Ring

@[expose] public section

set_option maxRecDepth 16384

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (G : GathC F) (K : Dev nD × KI → ℕ)

/-- The ring's cells, all of them set up: what every device may use at any time. -/
def recs : sProp 𝕄 :=
  bigSep Finset.univ fun ck : Dev nD × KI => iprop(cellInv ER (ringRd G) (K ck) (kcell ck) ∗ reached ER (kcell ck) 0)

instance recs_persistent : BI.Persistent (recs G K) := by unfold recs; infer_instance

omit [FloatOps F] in
theorem rec_at (ck : Dev nD × KI) : (recs G K : sProp 𝕄) ⊢ iprop(cellInv ER (ringRd G) (K ck) (kcell ck) ∗ reached ER (kcell ck) 0) :=
  bigSep_elim (Finset.mem_univ ck)

/-- What a device uses up at hop `h`: its places in its two cells, the right to credit them, the arrival's credit. -/
def hopRes (c : Dev nD) (h : Fin 7) : sProp 𝕄 :=
  iprop(atPos ER (sendCell c h) 0 ∅ 0 ∗ atPos ER (recvCell c h) 0 ∅ 0 ∗ dutyTok ER (sendCell c h) 0 false
    ∗ dutyTok ER (recvCell (nxt c) h) 0 false ∗ cred (tallyAt (recvCell c h) () N))

/-- The two semaphores of hop `h`, at zero again. -/
def hopDone (c : Dev nD) (h : Fin 7) : sProp 𝕄 := iprop(semVal (sendCell c h) 0 ∗ semVal (recvCell c h) 0)

omit [FloatOps F] in
theorem slotM_pts (c d : Dev nD) (h : Fin 7) (g : GathC F) :
    (((slotM c h).view.loc (d : Thread nD τ)) ↦[(slotM c h).view.set]{fullShare} g : sProp 𝕄) = slotAt d (sl c h.castSucc) g := by
  unfold slotAt; rw [slotM_set]

omit [FloatOps F] in
/-- Written over with the sent slot, the slot holds what the sender's does. -/
theorem landed (c : Dev nD) (h : Fin 7) (f g : GathC F) :
    (((slotM c h).view.loc (nxt c : Thread nD τ)) ↦[(slotM c h).view.set]{fullShare}
        ((slotM c h).view.write (Elt F) f ((slotM c h).view.read (Elt F) g) Finset.univ) : sProp 𝕄)
      = slotAt (nxt c) (sl c h.castSucc) g := by
  rw [View.write_read_eq_piecewise, View.setOn_univ, slotM_set]
  unfold slotAt
  exact pointsTo_congr fun i hi => Finset.piecewise_eq_of_mem _ _ _ hi

omit [FloatOps F] in
theorem amount_slot (c : Dev nD) (h : Fin 7) : (slotM c h).view.amount (.dma (recvS h)) = N := rfl

omit [FloatOps F] in
theorem owed_hop (c : Dev nD) (h : Fin 7) :
    owedFrom c h.val = owedFrom c (h.val + 1) + tallyAt ((nxt c : Thread nD τ), SemLoc.dma (recvS h)) () N := owedFrom_step c h

omit [FloatOps F] in
theorem duty_send (c : Dev nD) (h : Fin 7) : false ∈ (ringRd (F := F) G).duties ((c : Thread nD τ), SemLoc.dma (sendS h)) 0 := by
  rw [show ((c : Thread nD τ), SemLoc.dma (sendS h)) = kcell (c, some (false, h)) from rfl, duties_k]; exact Finset.mem_singleton_self _
omit [FloatOps F] in
theorem duty_recv (c : Dev nD) (h : Fin 7) : false ∈ (ringRd (F := F) G).duties ((c : Thread nD τ), SemLoc.dma (recvS h)) 0 := by
  rw [show ((c : Thread nD τ), SemLoc.dma (recvS h)) = kcell (c, some (true, h)) from rfl, duties_k]; exact Finset.mem_singleton_self _
omit [FloatOps F] in
theorem pay_send (c : Dev nD) (h : Fin 7) :
    (((slotM c h).view.loc (c : Thread nD τ)) ↦[(slotM c h).view.set]{fullShare} G : sProp 𝕄)
      ⊢ (ringRd (F := F) G).payload ((c : Thread nD τ), SemLoc.dma (sendS h)) 0 false := by
  rw [show ((c : Thread nD τ), SemLoc.dma (sendS h)) = kcell (c, some (false, h)) from rfl, payload_k, slotM_pts]; exact BI.Entails.refl _
omit [FloatOps F] in
theorem pay_recv (c : Dev nD) (h : Fin 7) (f : GathC F) :
    (((slotM c h).view.loc (nxt c : Thread nD τ)) ↦[(slotM c h).view.set]{fullShare}
        ((slotM c h).view.write (Elt F) f ((slotM c h).view.read (Elt F) G) Finset.univ) : sProp 𝕄)
      ⊢ (ringRd (F := F) G).payload ((nxt c : Thread nD τ), SemLoc.dma (recvS h)) 0 false := by
  rw [show ((nxt c : Thread nD τ), SemLoc.dma (recvS h)) = kcell (nxt c, some (true, h)) from rfl, payload_k, landed]
  show _ ⊢ slotAt (nxt c) (sl (nxt c) h.succ) G
  rw [← sl_prv, prv_nxt]

/-- The transfer of a slot to the next device, which pays what the device owes there for this hop. -/
theorem wp_hop_send (c n : Dev nD) (h : Fin 7) (hn : n = nxt c)
    {hsc : (slotM c h : Memref sig (Dev.tc n : Thread nD τ).2.kind .vmem S1024x32 .f32).view.ref.isScScratch = false}
    {hsrc : (slotM c h).view.WordExact} {hdst : (slotM c h).view.WordExact}
    {hsem : DmaTarget.Typed .vmem (.dma (recvS h)) (.remote (Dev.tc n : Thread nD τ) (slotM c h) (.dma (sendS h)) hsc)}
    {α : Type} {Q : α → sProp 𝕄} {k : PUnit → Prog (TpuEff nD τ sig (Elt F) Λ₀ .tc) α}
    (f : GathC F) (W : Waits sig Unit) :
    iprop(recs G K ∗ (dutyTok ER (sendCell c h) 0 false ∗ dutyTok ER (recvCell (nxt c) h) 0 false)
        ∗ slotAt c (sl c h.castSucc) G ∗ slotAt (nxt c) (sl c h.castSucc) f ∗ owes (c : Thread nD τ) (owedFrom c h.val) W)
      ⊢ iprop((iprop(cred (tallyAt (sendCell c h) () N) ∗ owes (c : Thread nD τ) (owedFrom c (h.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c h) (.remote (Dev.tc n : Thread nD τ) (slotM c h) (.dma (sendS h)) hsc) (.dma (recvS h)) hsrc hdst hsem) k) Q) := by
  subst hn
  iintro ⟨#HR, ⟨HtS, HtV⟩, Hsrc, Hdst, HO⟩
  ihave Hs := (rec_at G K (c, some (false, h))) $$ HR
  icases Hs with ⟨#HIs, #Hrs⟩
  ihave Hn := (rec_at G K (nxt c, some (true, h))) $$ HR
  icases Hn with ⟨#HIn, #Hrn⟩
  ihave Hsrc := (Entails.of_eq (slotM_pts c c h G).symm) $$ Hsrc
  ihave Hdst := (Entails.of_eq (slotM_pts c (nxt c) h f).symm) $$ Hdst
  iapply (Rounds.wp_send_pointsTo 𝒱₀ ER (ringRd G) (c : Thread nD τ) none (κ₁ := K (c, some (false, h))) (κ₂ := K (nxt c, some (true, h)))
    (r₁ := 0) (r₂ := 0) (d₁ := false) (d₂ := false) (fd := f) (duty_send G c h) (duty_recv G (nxt c) h)
    () () N (amount_slot c h) (amount_k G c (some (false, h)) false) (amount_k G (nxt c) (some (true, h)) false)
    (owedFrom c (h.val + 1)) (owed_hop c h) (W := W) (pay_send G c h) (pay_recv G c h f))
  isplitr; · iexact HIs
  isplitr; · iexact HIn
  isplitl [Hsrc]; · iexact Hsrc
  isplitl [Hdst]; · iexact Hdst
  isplitl [HO]; · iexact HO
  isplitl [HtS]; · iexact HtS
  isplitr; · iexact Hrs
  isplitl [HtV]; · iexact HtV
  iexact Hrn

/-- A wait on one of the hop's two cells for the whole of its round: its payload, and the semaphore back at zero. -/
theorem wp_hop_wait (c : Dev nD) (x : Bool × Fin 7) (q : DmaSem sig) (hq : csem (some x) = .dma q)
    {M M' : Memref sig .tc .vmem S1024x32 .f32} {hs : M.view.WordExact} {hd : M'.view.WordExact} (hN : M'.view.dmaCredit = N)
    {α : Type} {Q : α → sProp 𝕄} {k : PUnit → Prog (TpuEff nD τ sig (Elt F) Λ₀ .tc) α}
    (O : CellTallies nD τ sig Unit) (W : Waits sig Unit)
    (hmay : (levAts L lv : sProp 𝕄) ⊢ MayWait (c : Thread nD τ) (.dma q) () O) :
    iprop(recs G K ∗ levAts L lv ∗ cred (tallyAt (kcell (c, some x)) () N) ∗ owes (c : Thread nD τ) O W ∗ atPos ER (kcell (c, some x)) 0 ∅ 0)
      ⊢ iprop((iprop(payK G c false (some x) ∗ semVal (kcell (c, some x)) 0 ∗ owes (c : Thread nD τ) O (insert (SemLoc.dma q, ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q M M' hs hd) k) Q) := by
  have e : kcell (c, some x) = ((c : Thread nD τ), SemLoc.dma q) := by unfold kcell; rw [hq]
  iintro ⟨#HR, #Hlev, Hc, HO, Ha⟩ Hk
  ihave Hr := (rec_at G K (c, some x)) $$ HR
  icases Hr with ⟨#HI, -⟩
  have hexp : 0 + M'.view.dmaCredit = (ringRd G).expect ((c : Thread nD τ), SemLoc.dma q) 0 := by
    rw [← e, expect_x, hN, Nat.zero_add]
  have hrest := rest_x G c x
  have hlate := duties_later G (kcell (c, some x))
  rw [e] at hrest hlate ⊢
  rw [← hN]
  iapply (Rounds.wp_wait_rest_token 𝒱₀ ER (ringRd G) (c : Thread nD τ) none (κ := K (c, some x))
      (wpE_waitDma2_eq 𝒱₀ (c : Thread nD τ) none Set.univ) (Set.mem_univ _) () (O := O) (W := W) (R := 0) (m := 0) (T := ∅) hexp) $$ [Hc HO Ha]
  · isplitr; · iexact HI
    isplitl [Hc]; · iexact Hc
    isplitl [HO]; · iexact HO
    isplitr; · iapply hmay; iexact Hlev
    iexact Ha
  iintro ⟨HO, Ha, -, Hpay⟩
  ihave Hpay := (Entails.of_eq hrest) $$ Hpay
  imod (Rounds.cell_close ER (ringRd G) (Set.mem_univ (K (c, some x))) (fun h => h) (R := 0 + 1) hlate) $$ [Ha] with Hz
  · isplitr; · iexact HI
    iexact Ha
  iapply Hk
  isplitl [Hpay]; · iexact Hpay
  isplitl [Hz]; · iexact Hz
  iexact HO

omit [FloatOps F] in
theorem payK_send (c : Dev nD) (h : Fin 7) : payK G c false (some (false, h)) = slotAt c (sl c h.castSucc) G := rfl
omit [FloatOps F] in
theorem payK_recv (c : Dev nD) (h : Fin 7) : payK G c false (some (true, h)) = slotAt c (sl c h.succ) G := rfl

/-- The whole hop: the device has its sent slot back, the slot of the device before has arrived, and it owes one
    arrival less. -/
theorem wp_hop (c n : Dev nD) (h : Fin 7) (hn : n = nxt c)
    {hsc : (slotM c h : Memref sig (Dev.tc n : Thread nD τ).2.kind .vmem S1024x32 .f32).view.ref.isScScratch = false}
    {hsrc hdst hs1 hd1 hs2 hd2 : (slotM c h).view.WordExact}
    {hsem : DmaTarget.Typed .vmem (.dma (recvS h)) (.remote (Dev.tc n : Thread nD τ) (slotM c h) (.dma (sendS h)) hsc)}
    {α : Type} {Q : α → sProp 𝕄} {k : PUnit → Prog (TpuEff nD τ sig (Elt F) Λ₀ .tc) α} :
    iprop(recs G K ∗ levAts L lv ∗ hopRes c h ∗ slotAt c (sl c h.castSucc) G ∗ (∃ f, slotAt (nxt c) (sl c h.castSucc) f)
        ∗ (∃ W, owes (c : Thread nD τ) (owedFrom c h.val) W))
      ⊢ iprop((iprop(hopDone c h ∗ slotAt c (sl c h.castSucc) G ∗ slotAt c (sl c h.succ) G
              ∗ ∃ W, owes (c : Thread nD τ) (owedFrom c (h.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c h) (.remote (Dev.tc n : Thread nD τ) (slotM c h) (.dma (sendS h)) hsc) (.dma (recvS h)) hsrc hdst hsem) fun _ =>
                .op (.waitDma2 (sendS h) (slotM c h) (slotM c h) hs1 hd1) fun _ =>
                  .op (.waitDma2 (recvS h) (slotM c h) (slotM c h) hs2 hd2) k) Q) := by
  unfold hopRes hopDone
  iintro ⟨#HR, #Hlev, ⟨HaS, HaV, HtS, HtV, HcV⟩, Hsrc, ⟨%f, Hdst⟩, ⟨%W, HO⟩⟩ Hk
  iapply (wp_hop_send G K c n h hn f W) $$ [Hsrc Hdst HO HtS HtV]
  · isplitr; · iexact HR
    isplitl [HtS HtV]
    · isplitl [HtS]; · iexact HtS
      iexact HtV
    isplitl [Hsrc]; · iexact Hsrc
    isplitl [Hdst]; · iexact Hdst
    iexact HO
  iintro ⟨HcS, HO⟩
  iapply (wp_hop_wait G K c (false, h) (sendS h) rfl (amount_slot c h) (owedFrom c (h.val + 1)) W
    (mayWait_low_from c (sendS h) (by rw [sendS_val]; omega) (h.val + 1))) $$ [HcS HO HaS]
  · isplitr; · iexact HR
    isplitr; · iexact Hlev
    isplitl [HcS]; · iexact HcS
    isplitl [HO]; · iexact HO
    iexact HaS
  iintro ⟨Hsrc, HzS, HO⟩
  iapply (wp_hop_wait G K c (true, h) (recvS h) rfl (amount_slot c h) (owedFrom c (h.val + 1)) _ (mayWait_recv c h)) $$ [HcV HO HaV]
  · isplitr; · iexact HR
    isplitr; · iexact Hlev
    isplitl [HcV]; · iexact HcV
    isplitl [HO]; · iexact HO
    iexact HaV
  iintro ⟨Hdst, HzV, HO⟩
  iapply Hk
  isplitl [HzS HzV]
  · isplitl [HzS]; · iexact HzS
    iexact HzV
  isplitl [Hsrc]; · iapply (Entails.of_eq (payK_send G c h)) $$ Hsrc
  isplitl [Hdst]; · iapply (Entails.of_eq (payK_recv G c h)) $$ Hdst
  iexists _
  iexact HO

end

end Cert.TopK

end
-- ==== Proof.TopK.Copies.lean ====
/-
The eight local copies that bring a device's columns into its work buffer, 1024 columns to a slot, and the store
of a device's own list into its slot of the gather buffer.
-/
module

public import proofs.«01_k».proof.Proof.TopK.Ring
public import Idealize.ShloMosaic.Lib.ValueIdxCore
public import Idealize.ShloMosaic.Lib.ValueLayout

@[expose] public section

set_option maxRecDepth 16384

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- Contents of a device's columns. -/
abbrev XC (F : FTy → Type) : Type := (main_arg0 : Ref sig .tc).ty.Contents (Elt F)

theorem inb_col (t : Fin 8) : ∀ a, (![0, 1024 * t.val] : Fin 2 → ℕ) a + S1024x1024.size a ≤ S1024x8192.size a := by revert t; decide
theorem inb_wslot (t : Fin 8) : ∀ a, (![t.val, 0, 0] : Fin 3 → ℕ) a + S1x1024x1024.size a ≤ S8x1024x1024.size a := by revert t; decide

/-- Columns `1024 t` to `1024 t + 1023` of the operand, and slot `t` of the work buffer, as the copies name them. -/
abbrev colR (t : Fin 8) : Rect S1024x8192 := Rect.unit (s := S1024x8192) ![0, 1024 * t.val] S1024x1024.size (inb_col t)
abbrev colM (t : Fin 8) : Memref sig .tc .hbm S1024x1024 .f32 := xM.slice (colR t) (fun _ => rfl)
abbrev wslotR (t : Fin 8) : Rect S8x1024x1024 := Rect.unit (s := S8x1024x1024) ![t.val, 0, 0] S1x1024x1024.size (inb_wslot t)
abbrev wslotM (t : Fin 8) : Memref sig .tc .vmem S1024x1024 .f32 :=
  (wM.slice (wslotR t) (fun _ => rfl)).squeeze S1024x1024 squeezes_S1x1024x1024_S1024x1024

def colSet (t : Fin 8) : Finset ((main_arg0 : Ref sig .tc).ty.Idx) := (colR t).set
def wslotSet (t : Fin 8) : Finset ((cc0_scratch0 : Ref sig .tc).ty.Idx) := (wslotR t).set

theorem mem_colSet (t : Fin 8) (i : S1024x8192.Idx) : i ∈ colSet t ↔ (i 1).val / 1024 = t.val := by
  unfold colSet
  rw [Rect.mem_set_unit]
  refine ⟨fun hi => ?_, fun hi a => ?_⟩
  · have h1 : 1024 * t.val ≤ (i 1).val ∧ (i 1).val < 1024 * t.val + 1024 := hi 1
    omega
  · fin_cases a
    · show 0 ≤ (i 0).val ∧ (i 0).val < 0 + 1024
      have : (i 0).val < 1024 := (i 0).isLt
      omega
    · show 1024 * t.val ≤ (i 1).val ∧ (i 1).val < 1024 * t.val + 1024
      omega

theorem mem_wslotSet (t : Fin 8) (i : S8x1024x1024.Idx) : i ∈ wslotSet t ↔ (i 0).val = t.val := by
  unfold wslotSet
  rw [Rect.mem_set_unit]
  refine ⟨fun hi => ?_, fun hi a => ?_⟩
  · have h0 : t.val ≤ (i 0).val ∧ (i 0).val < t.val + 1 := hi 0
    omega
  · fin_cases a
    · show t.val ≤ (i 0).val ∧ (i 0).val < t.val + 1
      omega
    · show 0 ≤ (i 1).val ∧ (i 1).val < 0 + 1024
      have : (i 1).val < 1024 := (i 1).isLt
      omega
    · show 0 ≤ (i 2).val ∧ (i 2).val < 0 + 1024
      have : (i 2).val < 1024 := (i 2).isLt
      omega

/-- The columns `t` of device `c`'s operand, and slot `t` of its work buffer. -/
def colAt (c : Dev nD) (t : Fin 8) (x : XC F) : sProp 𝕄 := ((c : Thread nD τ).loc main_arg0) ↦[colSet t]{fullShare} x
def wslotAt (c : Dev nD) (t : Fin 8) (w : WorkC F) : sProp 𝕄 := ((c : Thread nD τ).loc cc0_scratch0) ↦[wslotSet t]{fullShare} w

theorem colSet_cover : (Finset.univ : Finset (Fin 8)).biUnion colSet = Finset.univ := by
  ext i
  rw [Finset.mem_biUnion]
  refine ⟨fun _ => Finset.mem_univ _, fun _ => ?_⟩
  have hi : (i 1).val < 8192 := (i 1).isLt
  exact ⟨⟨(i 1).val / 1024, by omega⟩, Finset.mem_univ _, (mem_colSet _ i).mpr rfl⟩

theorem wslotSet_cover : (Finset.univ : Finset (Fin 8)).biUnion wslotSet = Finset.univ := by
  ext i
  rw [Finset.mem_biUnion]
  refine ⟨fun _ => Finset.mem_univ _, fun _ => ?_⟩
  have hi : (i 0).val < 8 := (i 0).isLt
  exact ⟨⟨(i 0).val, hi⟩, Finset.mem_univ _, (mem_wslotSet _ i).mpr rfl⟩

omit [FloatOps F] in
/-- The operand is its eight column blocks. -/
theorem cols (c : Dev nD) (x : XC F) :
    (((c : Thread nD τ).loc main_arg0) ↦{fullShare} x : sProp 𝕄) = bigSep Finset.univ fun t : Fin 8 => colAt c t x := by
  unfold colAt
  rw [← colSet_cover]
  exact pointsTo_biUnion _ _ fun t _ t' _ hne => Finset.disjoint_left.mpr fun i hi hi' =>
    hne (Fin.ext (((mem_colSet _ i).mp hi).symm.trans ((mem_colSet _ i).mp hi')))

omit [FloatOps F] in
/-- The work buffer is its eight slots. -/
theorem wslots (c : Dev nD) (w : WorkC F) : (workAt c w : sProp 𝕄) = bigSep Finset.univ fun t : Fin 8 => wslotAt c t w := by
  unfold wslotAt workAt
  rw [← wslotSet_cover]
  exact pointsTo_biUnion _ _ fun t _ t' _ hne => Finset.disjoint_left.mpr fun i hi hi' =>
    hne (Fin.ext (((mem_wslotSet _ i).mp hi).symm.trans ((mem_wslotSet _ i).mp hi')))

/-- The work buffer after the copies: slot `t` holds columns `1024 t` on. -/
def work0 (x : XC F) : WorkC F := fun i : S8x1024x1024.Idx =>
  (x (ix2 (n0 := 1024) (n1 := 8192) ⟨(i 1).val, (i 1).isLt⟩
    ⟨1024 * (i 0).val + (i 2).val, by
      have h0 : (i 0).val < 8 := (i 0).isLt
      have h2 : (i 2).val < 1024 := (i 2).isLt
      omega⟩ : S1024x8192.Idx) : Elt F .f32)

omit [FloatOps F] in
theorem wslotM_set (t : Fin 8) : (wslotM t).view.set = wslotSet t := by
  rw [Memref.set_view_squeeze]; exact View.set_slice_whole _ _
omit [FloatOps F] in
theorem colM_set (t : Fin 8) : (colM t).view.set = colSet t := View.set_slice_whole _ _

omit [FloatOps F] in
theorem copied_eq (t : Fin 8) (x : XC F) (w : WorkC F) (i : S8x1024x1024.Idx) (hi : i ∈ wslotSet t) :
    (wslotM t).view.write (Elt F) w ((colM t).view.read (Elt F) x) Finset.univ i = work0 x i := by
  rw [← wslotM_set] at hi
  obtain ⟨y, -, rfl⟩ := Finset.mem_map.mp hi
  rw [View.write_emb_of_mem _ _ (Finset.mem_univ y)]
  obtain ⟨a, b, rfl⟩ : ∃ a b, y = ix2 (n0 := 1024) (n1 := 1024) a b := ⟨y 0, y 1, eq_ix2 y⟩
  have e : (wslotM t).view.emb (ix2 a b) = (wslotR t).emb (ix3 (⟨0, Nat.one_pos⟩ : Fin 1) a b) :=
    congrArg (wslotR t).emb (reshapeEquiv_ix2_1ab _ a b)
  rw [e]
  unfold work0
  show x ((colR t).emb (ix2 a b)) = _
  congr 1
  funext d
  fin_cases d
  · refine Fin.ext ?_
    show 0 + 1 * a.val = 0 + 1 * a.val
    rfl
  · refine Fin.ext ?_
    show 1024 * t.val + 1 * b.val = 1024 * (t.val + 1 * 0) + (0 + 1 * b.val)
    omega

omit [FloatOps F] in
theorem copied (c : Dev nD) (t : Fin 8) (x : XC F) (w : WorkC F) :
    iprop((((wslotM t).view.loc (c : Thread nD τ)) ↦[wslotSet t]{fullShare}
          ((wslotM t).view.write (Elt F) w ((ReadAs.same : ReadAs (Elt F) S1024x1024 .f32 S1024x1024 .f32).apply ((colM t).view.read (Elt F) x)) Finset.univ))
        ∗ (((colM t).view.loc (c : Thread nD τ)) ↦[(colM t).view.set]{fullShare} x) : sProp 𝕄)
      = iprop(wslotAt c t (work0 x) ∗ colAt c t x) := by
  rw [colM_set]
  unfold wslotAt colAt
  congr 1
  exact pointsTo_congr fun i hi => copied_eq t x w i hi

/-- The amount a copy credits. -/
abbrev NC : ℕ := (wslotM 0).view.dmaCredit
theorem NC_pos : 0 < NC := View.dmaCredit_pos _ (by decide)

/-- A copy under way: its completion hands back slot `t` at the copied columns, and the columns. -/
def flying (c : Dev nD) (t : Fin 8) (x : XC F) : sProp 𝕄 :=
  Transfers.Flight countersEmb (c : Thread nD τ) (.dma (copyS t)) () NC iprop(wslotAt c t (work0 x) ∗ colAt c t x)

theorem wp_copy_start (c : Dev nD) (t : Fin 8) (x : XC F) (w : WorkC F)
    {hsrc : (colM t).view.WordExact} {hdst : (wslotM t).view.WordExact}
    {hsem : DmaTarget.Typed (nD := nD) (τ := τ) (p := .tc) .hbm (.dma (copyS t)) (.here (wslotM t))}
    {α : Type} {Q : α → sProp 𝕄} {k : PUnit → Prog (TpuEff nD τ sig (Elt F) Λ₀ .tc) α} :
    iprop(colAt c t x ∗ wslotAt c t w ∗ semVal ((c : Thread nD τ), .dma (copyS t)) 0)
      ⊢ iprop((flying c t x -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (colM t) (.here (wslotM t)) (.dma (copyS t)) hsrc hdst hsem) k) Q) := by
  have h := Transfers.wp_dmaLocal (countersEmb : UEmb Counters 𝕄) 𝒱₀ (c : Thread nD τ) none (defs := defs₀ (F := F)) (src := colM t) (dst := wslotM t)
    (via := ReadAs.same) (sm := .dma (copyS t)) (hsrc := hsrc) (hdst := hdst) (hsem := hsem) (k := k) (Q := Q) (q := fullShare) (fs := x) (fd := w) (Sd := wslotSet t)
    () NC rfl NC_pos (by rw [wslotM_set])
  rw [copied] at h
  rw [colM_set] at h
  exact h

theorem wp_copy_wait (c : Dev nD) (t : Fin 8) (x : XC F)
    {hsrc : (colM t).view.WordExact} {hdst : (wslotM t).view.WordExact}
    {α : Type} {Q : α → sProp 𝕄} {k : PUnit → Prog (TpuEff nD τ sig (Elt F) Λ₀ .tc) α} :
    iprop(levAts L lv ∗ flying c t x ∗ ∃ W, owes (c : Thread nD τ) (owedFrom c 0) W)
      ⊢ iprop((iprop((wslotAt c t (work0 x) ∗ colAt c t x) ∗ semVal ((c : Thread nD τ), .dma (copyS t)) 0 ∗ ∃ W, owes (c : Thread nD τ) (owedFrom c 0) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (copyS t) (colM t) (wslotM t) hsrc hdst) k) Q) := by
  unfold flying
  iintro ⟨#Hlev, HF, ⟨%W, HO⟩⟩ Hk
  iapply (Transfers.wp_waitLocalO (countersEmb : UEmb Counters 𝕄) 𝒱₀ (c : Thread nD τ) none (defs := defs₀ (F := F)) (sem := copyS t) (srcw := colM t) (dstw := wslotM t)
    () (N := NC) rfl (D := iprop(wslotAt c t (work0 x) ∗ colAt c t x)) (O := owedFrom c 0) (W := W)) $$ [HF HO]
  · isplitl [HF]; · iexact HF
    isplitl [HO]; · iexact HO
    iapply (mayWait_low_from c (copyS t) (by rw [copyS_val]; omega) 0); iexact Hlev
  iintro ⟨HD, Hz, HO⟩
  iapply Hk
  isplitl [HD]; · iexact HD
  isplitl [Hz]; · iexact Hz
  iexists _
  iexact HO

/-! ## A device's own list into its slot -/

/-- The gather buffer that holds the list `Ls d` in slot `d`. -/
def gath (Ls : Dev nD → FVec F S1024x32 .f32) : GathC F := fun i : S8x1024x32.Idx =>
  (Ls (⟨(i 0).val, (i 0).isLt⟩ : Fin 8) (ix2 (n0 := 1024) (n1 := 32) ⟨(i 1).val, (i 1).isLt⟩ ⟨(i 2).val, (i 2).isLt⟩) : Elt F .f32)

abbrev ownR (c : Dev nD) : Rect S8x1024x32 := Rect.unit (s := S8x1024x32) (k0_off2 c) S1x1024x32.size (k0_off2_inb c)

omit [FloatOps F] in
theorem ownR_set (c : Dev nD) : (ownR c).set = slotSet c := by
  ext i
  exact (mem_slotRect c _ _ (k0_off2_eq c) i).trans (mem_slotSet _ _).symm

omit [FloatOps F] in
theorem own_access_set (c : Dev nD) : ((gM.access (ownR c) : View sig .tc _ _ _)).set = slotSet c :=
  (View.set_slice_whole _ _).trans (ownR_set c)

omit [FloatOps F] in
theorem own_read_set (c : Dev nD) : gM.view.setOn (ownR c).toLoadRect.set ⊆ slotSet c := by
  rw [← own_access_set]
  exact le_of_eq (View.set_slice _ _).symm

theorem own_written (c : Dev nD) (Ls : Dev nD → FVec F S1024x32 .f32) (f : GathC F) (v : FVec F S1024x32 .f32) (hv : v = Ls c) :
    (((gM.access (ownR c) : View sig .tc _ _ _).loc (c : Thread nD τ)) ↦[slotSet c]{fullShare}
        ((gM.access (ownR c) : View sig .tc _ _ _).write (Elt F) f (k0_pay15 (k0_pay14 v)) Finset.univ) : sProp 𝕄)
      = slotAt c c (gath Ls) := by
  subst hv
  unfold slotAt
  refine pointsTo_congr fun i hi => ?_
  rw [← own_access_set] at hi
  obtain ⟨y, -, rfl⟩ := Finset.mem_map.mp hi
  rw [View.write_emb_of_mem _ _ (Finset.mem_univ y)]
  obtain ⟨a, b, d, rfl⟩ : ∃ a b d, y = ix3 (n0 := 1) (n1 := 1024) (n2 := 32) a b d := ⟨y 0, y 1, y 2, eq_ix3 y⟩
  have e : ((gM.access (ownR c) : View sig .tc _ _ _)).emb (ix3 a b d) = (ix3 (n0 := 8) (n1 := 1024) (n2 := 32) c b d : S8x1024x32.Idx) := by
    show (ownR c).emb (ix3 a b d) = _
    have ha : a.val = 0 := by omega
    funext x
    refine Fin.ext ?_
    have e0 : k0_off2 c 0 = c.val := congrFun (k0_off2_eq c) 0
    have e1 : k0_off2 c 1 = 0 := congrFun (k0_off2_eq c) 1
    have e2 : k0_off2 c 2 = 0 := congrFun (k0_off2_eq c) 2
    fin_cases x
    · show k0_off2 c 0 + 1 * a.val = c.val
      omega
    · show k0_off2 c 1 + 1 * b.val = b.val
      omega
    · show k0_off2 c 2 + 1 * d.val = d.val
      omega
  rw [e]
  unfold gath k0_pay15 k0_pay14
  show shapeCast _ (shapeCast _ (Ls c) _) _ (ix3 a b d) = Ls c (ix2 b d)
  rw [shapeCast_self]
  exact shapeCast_ab_1ab_apply _ _ _ _ _

end Cert.TopK

end
-- ==== Proof.TopK.Steps.lean ====
/-
The copies and the hops of the ring as steps along a row: each step works one member of the row through.
-/
module

public import proofs.«01_k».proof.Proof.TopK.Hop
public import proofs.«01_k».proof.Proof.TopK.Copies

@[expose] public section

set_option maxRecDepth 16384

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A row of resources worked through from the left -/

/-- The first `n` of the row `P` have become `Q`. -/
def stage {k : ℕ} (P Q : Fin k → sProp 𝕄) (n : ℕ) : sProp 𝕄 := bigSep Finset.univ fun t => if t.val < n then Q t else P t
def others {k : ℕ} (P Q : Fin k → sProp 𝕄) (t : Fin k) : sProp 𝕄 :=
  bigSep (Finset.univ.erase t) fun s => if s.val < t.val then Q s else P s

omit [FloatOps F] in
theorem stage_take {k : ℕ} (P Q : Fin k → sProp 𝕄) (t : Fin k) : stage P Q t.val = iprop(P t ∗ others P Q t) := by
  unfold stage others
  rw [bigSep_univ_at _ t, if_neg (Nat.lt_irrefl _)]
omit [FloatOps F] in
theorem stage_put {k : ℕ} (P Q : Fin k → sProp 𝕄) (t : Fin k) : iprop(Q t ∗ others P Q t) = stage P Q (t.val + 1) := by
  unfold stage others
  rw [bigSep_univ_at _ t, if_pos (Nat.lt_succ_self _)]
  congr 1
  refine bigSep_congr fun s hs => ?_
  have hne : s.val ≠ t.val := fun e => (Finset.mem_erase.mp hs).1 (Fin.ext e)
  by_cases h : s.val < t.val
  · rw [if_pos h, if_pos (by omega)]
  · rw [if_neg h, if_neg (by omega)]
omit [FloatOps F] in
theorem stage_zero {k : ℕ} (P Q : Fin k → sProp 𝕄) : stage P Q 0 = bigSep Finset.univ P :=
  bigSep_congr fun t _ => if_neg (Nat.not_lt_zero _)
omit [FloatOps F] in
theorem stage_full {k : ℕ} (P Q : Fin k → sProp 𝕄) : stage P Q k = bigSep Finset.univ Q :=
  bigSep_congr fun t _ => if_pos t.isLt

/-! ## The copies, one step each -/

section Steps

variable (c : Dev nD) (x : XC F) (w : WorkC F)

def idle (t : Fin 8) : sProp 𝕄 := iprop(colAt c t x ∗ wslotAt c t w ∗ semVal ((c : Thread nD τ), .dma (copyS t)) 0)
def arrived (t : Fin 8) : sProp 𝕄 := iprop((wslotAt c t (work0 x) ∗ colAt c t x) ∗ semVal ((c : Thread nD τ), .dma (copyS t)) 0)

theorem wp_start (t : Fin 8) (n m : ℕ) (hn : n = t.val) (hm : m = t.val + 1)
    {hsrc : (colM t).view.WordExact} {hdst : (wslotM t).view.WordExact}
    {hsem : DmaTarget.Typed (nD := nD) (τ := τ) (p := .tc) .hbm (.dma (copyS t)) (.here (wslotM t))}
    {α : Type} {Q : α → sProp 𝕄} {k : PUnit → Prog (TpuEff nD τ sig (Elt F) Λ₀ .tc) α} :
    stage (idle c x w) (fun t => flying c t x) n
      ⊢ iprop((stage (idle c x w) (fun t => flying c t x) m
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (colM t) (.here (wslotM t)) (.dma (copyS t)) hsrc hdst hsem) k) Q) := by
  subst hn hm
  rw [stage_take, ← stage_put]
  unfold idle
  iintro ⟨Hi, Ho⟩ Hk
  iapply (wp_copy_start c t x w) $$ Hi
  iintro Hf
  iapply Hk
  isplitl [Hf]; · iexact Hf
  iexact Ho

/-- Copies awaited so far, and what the device owes meanwhile. -/
def awaiting (n : ℕ) : sProp 𝕄 :=
  iprop(stage (fun t => flying c t x) (arrived c x) n ∗ ∃ W, owes (c : Thread nD τ) (owedFrom c 0) W)

theorem wp_await (t : Fin 8) (n m : ℕ) (hn : n = t.val) (hm : m = t.val + 1)
    {hsrc : (colM t).view.WordExact} {hdst : (wslotM t).view.WordExact}
    {α : Type} {Q : α → sProp 𝕄} {k : PUnit → Prog (TpuEff nD τ sig (Elt F) Λ₀ .tc) α} :
    iprop(levAts L lv ∗ awaiting c x n)
      ⊢ iprop((awaiting c x m
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (copyS t) (colM t) (wslotM t) hsrc hdst) k) Q) := by
  subst hn hm
  unfold awaiting
  rw [stage_take, ← stage_put]
  iintro ⟨#Hlev, ⟨Hi, Ho⟩, HO⟩ Hk
  iapply (wp_copy_wait c t x) $$ [Hi HO]
  · isplitr; · iexact Hlev
    isplitl [Hi]; · iexact Hi
    iexact HO
  iintro ⟨Hd, Hz, HO⟩
  iapply Hk
  isplitr [HO]
  · isplitl [Hd Hz]
    · unfold arrived
      isplitl [Hd]; · iexact Hd
      iexact Hz
    iexact Ho
  iexact HO

end Steps

/-! ## The hops, one step each -/

section Ring

variable (G : GathC F) (K : Dev nD × KI → ℕ) (c : Dev nD)

/-- The slot that travels on at hop `n`. -/
def slotNo (n : ℕ) : Dev nD := (⟨(c.val + 8 - n) % 8, Nat.mod_lt _ (by decide)⟩ : Fin 8)

def ready (h : Fin 7) : sProp 𝕄 := iprop(hopRes c h ∗ ∃ f, slotAt (nxt c) (sl c h.castSucc) f)
def passed (h : Fin 7) : sProp 𝕄 := iprop(hopDone c h ∗ slotAt c (sl c h.castSucc) G)

/-- The ring before hop `n` on device `c`. -/
def turning (n : ℕ) : sProp 𝕄 :=
  iprop(stage (ready c) (passed G c) n ∗ slotAt c (slotNo c n) G ∗ ∃ W, owes (c : Thread nD τ) (owedFrom c n) W)

theorem wp_turn (n : Dev nD) (h : Fin 7) (a b : ℕ) (hn : n = nxt c) (ha : a = h.val) (hb : b = h.val + 1)
    {hsc : (slotM c h : Memref sig (Dev.tc n : Thread nD τ).2.kind .vmem S1024x32 .f32).view.ref.isScScratch = false}
    {hsrc hdst hs1 hd1 hs2 hd2 : (slotM c h).view.WordExact}
    {hsem : DmaTarget.Typed .vmem (.dma (recvS h)) (.remote (Dev.tc n : Thread nD τ) (slotM c h) (.dma (sendS h)) hsc)}
    {α : Type} {Q : α → sProp 𝕄} {k : PUnit → Prog (TpuEff nD τ sig (Elt F) Λ₀ .tc) α} :
    iprop(recs G K ∗ levAts L lv ∗ turning G c a)
      ⊢ iprop((turning G c b -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c h) (.remote (Dev.tc n : Thread nD τ) (slotM c h) (.dma (sendS h)) hsc) (.dma (recvS h)) hsrc hdst hsem) fun _ =>
                .op (.waitDma2 (sendS h) (slotM c h) (slotM c h) hs1 hd1) fun _ =>
                  .op (.waitDma2 (recvS h) (slotM c h) (slotM c h) hs2 hd2) k) Q) := by
  subst ha hb
  have e0 : slotNo c h.val = sl c h.castSucc := rfl
  have e1 : slotNo c (h.val + 1) = sl c h.succ := rfl
  unfold turning
  rw [stage_take, ← stage_put, e0, e1]
  unfold ready passed
  iintro ⟨#HR, #Hlev, ⟨⟨Hres, Hn⟩, Ho⟩, Hs, HO⟩ Hk
  iapply (wp_hop G K c n h hn) $$ [Hres Hn Hs HO]
  · isplitr; · iexact HR
    isplitr; · iexact Hlev
    isplitl [Hres]; · iexact Hres
    isplitl [Hs]; · iexact Hs
    isplitl [Hn]; · iexact Hn
    iexact HO
  iintro ⟨Hd, Hs, Hv, HO⟩
  iapply Hk
  isplitr [Hv HO]
  · isplitl [Hd Hs]
    · isplitl [Hd]; · iexact Hd
      iexact Hs
    iexact Ho
  isplitl [Hv]; · iexact Hv
  iexact HO

end Ring

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = nxt c := by revert c; decide
theorem dev5_eq (c : Dev nD) : (⟨k0_dev5 c, k0_dev5_lt c⟩ : Dev nD) = nxt c := by revert c; decide
theorem dev6_eq (c : Dev nD) : (⟨k0_dev6 c, k0_dev6_lt c⟩ : Dev nD) = nxt c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = nxt c := by revert c; decide
theorem dev9_eq (c : Dev nD) : (⟨k0_dev9 c, k0_dev9_lt c⟩ : Dev nD) = nxt c := by revert c; decide

end Cert.TopK

end
-- ==== Proof.TopK.Body.lean ====
/-
The body of the kernel on one device: copies in, the local list, the ring of seven hops, the list of the eight lists.
-/
module

public import proofs.«01_k».proof.Proof.TopK.Steps

@[expose] public section

set_option maxRecDepth 16384

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's own list: what the first loop makes of its columns. -/
def localList (x : XC F) : FVec F S1024x32 .f32 := (outer (work0 x) k0_t1_loop.trips).2.1
/-- The gathered lists, from the columns of all devices. -/
def lists (X : Dev nD → XC F) : GathC F := gath fun d => localList (X d)
/-- The result, the same on every device: what the last loop makes of the gathered lists. -/
def resultOf (X : Dev nD → XC F) : FVec F S1024x32 .f32 := (merge (lists X) k0_t3_loop.trips).2.1

variable (X : Dev nD → XC F) (K : Dev nD × KI → ℕ) (c : Dev nD)

/-- Places, rights and credit at the barrier. -/
def barRes : sProp 𝕄 :=
  iprop(atPos ER (barCell c) 0 ∅ 0 ∗ dutyTok ER (barCell (prv c)) 0 true ∗ dutyTok ER (barCell (nxt c)) 0 false ∗ cred (tallyAt (barCell c) () 2))
/-- The copies' semaphores, at zero. -/
def copySems : sProp 𝕄 := bigSep Finset.univ fun t : Fin 8 => semVal ((c : Thread nD τ), .dma (copyS t)) 0
def xAt : sProp 𝕄 := ((c : Thread nD τ).loc main_arg0) ↦{fullShare} X c
def outAt (o : OutC F) : sProp 𝕄 := ((c : Thread nD τ).loc cc0_stg0_0) ↦{fullShare} o

def bodyIn : sProp 𝕄 :=
  iprop(recs (lists X) K ∗ levAts L lv ∗ barRes c ∗ (bigSep Finset.univ fun h : Fin 7 => hopRes c h) ∗ copySems c ∗ xAt X c
    ∗ (∃ w, workAt c w) ∗ (∃ g, gathAt c g) ∗ (∃ W, owes (c : Thread nD τ) (O₀ c) W) ∗ ∃ o, outAt c o)
def bodyOut : sProp 𝕄 :=
  iprop(semVal (barCell c) 0 ∗ (bigSep Finset.univ fun h : Fin 7 => hopDone c h) ∗ copySems c ∗ xAt X c
    ∗ (∃ w, workAt c w) ∗ (∃ g, gathAt c g) ∗ (∃ W, owes (c : Thread nD τ) 0 W) ∗ outAt c (resultOf X))

omit [FloatOps F] in
/-- Before the copies: the columns, the slots and the semaphores, dealt to the eight copies. -/
theorem idle_intro (x : XC F) (w : WorkC F) :
    iprop((((c : Thread nD τ).loc main_arg0) ↦{fullShare} x) ∗ workAt c w ∗ copySems c) = stage (idle c x w) (fun t => flying c t x) 0 := by
  rw [stage_zero, cols, wslots]
  unfold idle copySems
  rw [bigSep_sep', bigSep_sep']
omit [FloatOps F] in
/-- After the copies: the work buffer whole, at the device's columns. -/
theorem arrived_elim (x : XC F) :
    (bigSep Finset.univ fun t => arrived c x t : sProp 𝕄)
      = iprop((workAt c (work0 x) ∗ (((c : Thread nD τ).loc main_arg0) ↦{fullShare} x)) ∗ copySems c) := by
  rw [cols, wslots]
  unfold arrived copySems
  rw [bigSep_sep', bigSep_sep']

omit [FloatOps F] in
/-- The gather buffer as the device's own slot and the seven the device before fills. -/
theorem gath_split (g : GathC F) :
    (gathAt c g : sProp 𝕄) = iprop(slotAt c c g ∗ bigSep Finset.univ fun h : Fin 7 => slotAt c (sl (prv c) h.castSucc) g) := by
  rw [gathAt_slots c c g]
  unfold bigSep
  rw [Fin.univ_succ, Finset.fold_cons, Finset.fold_map]
  rw [sl_zero]
  simp only [sl_prv]
  rfl

omit [FloatOps F] in
theorem passed_split (G : GathC F) :
    (bigSep Finset.univ fun h : Fin 7 => passed G c h : sProp 𝕄)
      = iprop((bigSep Finset.univ fun h : Fin 7 => hopDone c h) ∗ bigSep Finset.univ fun h : Fin 7 => slotAt c (sl c h.castSucc) G) := by
  unfold passed; rw [bigSep_sep']

omit [FloatOps F] in
theorem row_last (Φ : Fin 8 → sProp 𝕄) : bigSep Finset.univ Φ = iprop((bigSep Finset.univ fun h : Fin 7 => Φ h.castSucc) ∗ Φ (Fin.last 7)) := by
  unfold bigSep
  rw [Fin.univ_castSuccEmb, Finset.fold_cons, Finset.fold_map]
  exact Std.Commutative.comm (op := fun P Q : sProp 𝕄 => BI.sep P Q) _ _

omit [FloatOps F] in
/-- After the last hop the seven passed slots and the last arrival are the gather buffer again. -/
theorem gath_join (g : GathC F) :
    iprop((bigSep Finset.univ fun h : Fin 7 => slotAt c (sl c h.castSucc) g) ∗ slotAt c (slotNo c 7) g) = (gathAt c g : sProp 𝕄) := by
  rw [gathAt_slots c c g]
  exact (row_last fun h : Fin 8 => slotAt c (sl c h) g).symm

omit [FloatOps F] in
/-- The barrier's payload, slot by slot. -/
theorem barPay_slots : (barPay c : sProp 𝕄) ⊢ bigSep Finset.univ fun h : Fin 7 => iprop(∃ f, slotAt (nxt c) (sl c h.castSucc) f) := by
  unfold barPay
  iintro ⟨%f, H⟩
  have hm : (bigSep Finset.univ fun h : Fin 7 => slotAt (nxt c) (sl c h.castSucc) f : sProp 𝕄)
      ⊢ bigSep Finset.univ fun h : Fin 7 => iprop(∃ f, slotAt (nxt c) (sl c h.castSucc) f) :=
    bigSep_mono fun h _ => show slotAt (nxt c) (sl c h.castSucc) f ⊢ iprop(∃ f, slotAt (nxt c) (sl c h.castSucc) f) by iintro H; iexists f; iexact H
  iapply hm $$ H

/-- The barrier: the device gives its seven slots to the device before it, and has the next device's seven. -/
theorem pay_prv (g : GathC F) (G : GathC F) :
    (bigSep Finset.univ fun h : Fin 7 => slotAt c (sl (prv c) h.castSucc) g : sProp 𝕄) ⊢ (ringRd (F := F) G).payload ((prv c : Thread nD τ), SemLoc.reg barS) 0 true := by
  rw [show ((prv c : Thread nD τ), SemLoc.reg barS) = kcell (prv c, none) from rfl, payload_k]
  show _ ⊢ barPay (prv c)
  unfold barPay
  rw [nxt_prv]
  iintro H
  iexists g
  iexact H

omit [FloatOps F] in
theorem pay_nxt (G : GathC F) : (iprop(emp) : sProp 𝕄) ⊢ (ringRd (F := F) G).payload ((nxt c : Thread nD τ), SemLoc.reg barS) 0 false := by
  rw [show ((nxt c : Thread nD τ), SemLoc.reg barS) = kcell (nxt c, none) from rfl, payload_k]
  exact BI.Entails.refl _

omit [FloatOps F] in
theorem duty_bar (G : GathC F) (d : Bool) : d ∈ (ringRd (F := F) G).duties ((c : Thread nD τ), SemLoc.reg barS) 0 := by
  rw [show ((c : Thread nD τ), SemLoc.reg barS) = kcell (c, none) from rfl, duties_k]; exact Finset.mem_univ _

theorem out_written (f : OutC F) (v : FVec F S1024x32 .f32) :
    ((oM.access (Rect.unit (s := S1024x32) ![0, 0] S1024x32.size inb_S1024x32_S1024x32_0_0) : View sig .tc _ _ _).write (Elt F) f v Finset.univ : OutC F) = v :=
  Memref.write_access_unit_zero_univ (Elt F) cc0_stg0_0 (by funext a; fin_cases a <;> rfl) _ f v

set_option maxHeartbeats 1600000 in
/-- The body, from all it is given to all it leaves. -/
theorem wp_body (Kt : PUnit → sProp 𝕄) :
    iprop(bodyIn X K c ∗ (bodyOut X c -∗ Kt ⟨⟩))
      ⊢ wp frame (wpE (defs₀ (F := F)) 𝒱₀ c none) Set.univ
          (cc0_body xM (Memref.isWhole_whole _) oM (Memref.isWhole_whole _) wM (Memref.isWhole_whole _) gM (Memref.isWhole_whole _)
            cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part1_skel, k0_part2_skel, k0_part3_skel, k0_part4_skel, k0_part5_skel, k0_part6_skel, k0_part7_skel, k0_part8_skel,
    k0_part9_skel, k0_part10_skel]
  simp only [semSignalWord, semWaitWord, Prog.lift, Prog.bind_op, Prog.bind_ret, Prog.pure_eq_ret, Prog.bind_assoc, wp_deviceId]
  unfold bodyIn barRes xAt
  iintro ⟨⟨#HR, #Hlev, ⟨HaB, HtP, HtN, HcB⟩, Hhops, Hcs, Hx, ⟨%w, Hw⟩, ⟨%g, Hg⟩, ⟨%W, HO⟩, ⟨%o, Hout⟩⟩, Hk⟩
  simp only [dev1_eq c, dev2_eq c]
  -- the eight copies start
  ihave Hst := (Entails.of_eq (idle_intro c (X c) w)) $$ [Hx Hw Hcs]
  · isplitl [Hx]; · iexact Hx
    isplitl [Hw]; · iexact Hw
    iexact Hcs
  iapply (wp_start c (X c) w 0 0 1 rfl rfl) $$ Hst; iintro Hst
  iapply (wp_start c (X c) w 1 1 2 rfl rfl) $$ Hst; iintro Hst
  iapply (wp_start c (X c) w 2 2 3 rfl rfl) $$ Hst; iintro Hst
  iapply (wp_start c (X c) w 3 3 4 rfl rfl) $$ Hst; iintro Hst
  iapply (wp_start c (X c) w 4 4 5 rfl rfl) $$ Hst; iintro Hst
  iapply (wp_start c (X c) w 5 5 6 rfl rfl) $$ Hst; iintro Hst
  iapply (wp_start c (X c) w 6 6 7 rfl rfl) $$ Hst; iintro Hst
  iapply (wp_start c (X c) w 7 7 8 rfl rfl) $$ Hst; iintro Hst
  -- the barrier's two signals
  ihave Hg := (Entails.of_eq (gath_split c g)) $$ Hg
  icases Hg with ⟨Hown, Hgive⟩
  ihave Hrp := (rec_at (lists X) K (prv c, none)) $$ HR
  icases Hrp with ⟨#HIp, #Hrp⟩
  ihave Hrn := (rec_at (lists X) K (nxt c, none)) $$ HR
  icases Hrn with ⟨#HIn, #Hrn⟩
  iapply (Rounds.wp_signal 𝒱₀ ER (ringRd (lists X)) (c : Thread nD τ) none (dst := (prv c : Thread nD τ)) (κ := K (prv c, none))
      (d := true) (duty_bar (prv c) (lists X) true) ((amount_k (lists X) (prv c) none true).trans (by decide)) () (O₁ c) rfl)
    $$ [HO HtP Hgive]
  · isplitr; · iexact HIp
    isplitl [HO]; · iexact HO
    isplitl [HtP]; · iexact HtP
    isplitl [Hgive]; · iapply (pay_prv c g (lists X)) $$ Hgive
    iexact Hrp
  iintro HO
  unfold O₁
  iapply (Rounds.wp_signal 𝒱₀ ER (ringRd (lists X)) (c : Thread nD τ) none (dst := (nxt c : Thread nD τ)) (κ := K (nxt c, none))
      (d := false) (duty_bar (nxt c) (lists X) false) ((amount_k (lists X) (nxt c) none false).trans (by decide)) () (owedFrom c 0) rfl)
    $$ [HO HtN]
  · isplitr; · iexact HIn
    isplitl [HO]; · iexact HO
    isplitl [HtN]; · iexact HtN
    isplitr; · iapply (pay_nxt c (lists X)); iempintro
    iexact Hrn
  iintro HO
  -- the eight copies are awaited
  ihave Hst := (show stage (idle c (X c) w) (fun t => flying c t (X c)) 8 ⊢ stage (fun t => flying c t (X c)) (arrived c (X c)) 0 from
    Entails.of_eq ((stage_full _ _).trans (stage_zero _ _).symm)) $$ Hst
  ihave Haw : awaiting c (X c) 0 $$ [Hst HO]
  · unfold awaiting
    isplitl [Hst]; · iexact Hst
    iexists W
    iexact HO
  iapply (wp_await c (X c) 0 0 1 rfl rfl) $$ [Haw]; · (isplitr; · iexact Hlev); iexact Haw
  iintro Haw
  iapply (wp_await c (X c) 1 1 2 rfl rfl) $$ [Haw]; · (isplitr; · iexact Hlev); iexact Haw
  iintro Haw
  iapply (wp_await c (X c) 2 2 3 rfl rfl) $$ [Haw]; · (isplitr; · iexact Hlev); iexact Haw
  iintro Haw
  iapply (wp_await c (X c) 3 3 4 rfl rfl) $$ [Haw]; · (isplitr; · iexact Hlev); iexact Haw
  iintro Haw
  iapply (wp_await c (X c) 4 4 5 rfl rfl) $$ [Haw]; · (isplitr; · iexact Hlev); iexact Haw
  iintro Haw
  iapply (wp_await c (X c) 5 5 6 rfl rfl) $$ [Haw]; · (isplitr; · iexact Hlev); iexact Haw
  iintro Haw
  iapply (wp_await c (X c) 6 6 7 rfl rfl) $$ [Haw]; · (isplitr; · iexact Hlev); iexact Haw
  iintro Haw
  iapply (wp_await c (X c) 7 7 8 rfl rfl) $$ [Haw]; · (isplitr; · iexact Hlev); iexact Haw
  iintro Haw
  unfold awaiting
  icases Haw with ⟨Hst, ⟨%W1, HO⟩⟩
  ihave Hst := (Entails.of_eq ((stage_full _ _).trans (arrived_elim c (X c)))) $$ Hst
  icases Hst with ⟨⟨Hw, Hx⟩, Hcs⟩
  -- the local list
  rw [wp_bind]
  iapply (wp_outer c c _ _ (work0 (X c)))
  isplitl [Hw]; · iexact Hw
  iintro Hw
  -- the barrier's wait
  ihave Hrb := (rec_at (lists X) K (c, none)) $$ HR
  icases Hrb with ⟨#HIb, -⟩
  iapply (Rounds.wp_wait_rest_token 𝒱₀ ER (ringRd (lists X)) (c : Thread nD τ) none (κ := K (c, none))
      (wpE_semWait_eq 𝒱₀ (c : Thread nD τ) none Set.univ) (Set.mem_univ _) () (O := owedFrom c 0) (W := W1) (R := 0) (m := 0) (T := ∅)
      (by rw [Nat.zero_add]; exact (expect_bar (lists X) c).symm)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar (lists X) c)) $$ Hpay
  icases Hp with ⟨-, Hp⟩
  ihave Hnext := (barPay_slots c) $$ Hp
  imod (Rounds.cell_close ER (ringRd (lists X)) (Set.mem_univ (K (c, none))) (fun h => h) (R := 0 + 1) (duties_later (lists X) (barCell c))) $$ [HaB] with HzB
  · isplitr; · iexact HIb
    iexact HaB
  -- the list goes into the device's own slot
  unfold slotAt
  iapply (wp_load 𝒱₀ (c : Thread nD τ) none Set.univ (m := gM) (own_read_set c)) $$ Hown; iintro Hown
  iapply (wp_store 𝒱₀ (c : Thread nD τ) none Set.univ (m := gM) (r := ownR c) (Mk := Finset.univ) (le_of_eq (own_access_set c))) $$ Hown; iintro Hown
  ihave Hown := (Entails.of_eq (own_written c (fun d => localList (X d)) g (outer (work0 (X c)) k0_t1_loop.trips).2.1 rfl)) $$ Hown
  -- the seven hops
  ihave Ht : turning (lists X) c 0 $$ [Hhops Hnext Hown HO]
  · unfold turning
    rw [stage_zero]
    unfold ready
    rw [bigSep_sep']
    isplitl [Hhops Hnext]
    · isplitl [Hhops]; · iexact Hhops
      iexact Hnext
    isplitl [Hown]
    · rw [show slotNo c 0 = c from sl_zero c]; iexact Hown
    iexists _
    iexact HO
  iapply (wp_turn (lists X) K c _ 0 0 1 (dev3_eq c) rfl rfl) $$ [Ht]
  · isplitr; · iexact HR
    isplitr; · iexact Hlev
    iexact Ht
  iintro Ht
  iapply (wp_turn (lists X) K c _ 1 1 2 (dev4_eq c) rfl rfl) $$ [Ht]
  · isplitr; · iexact HR
    isplitr; · iexact Hlev
    iexact Ht
  iintro Ht
  iapply (wp_turn (lists X) K c _ 2 2 3 (dev5_eq c) rfl rfl) $$ [Ht]
  · isplitr; · iexact HR
    isplitr; · iexact Hlev
    iexact Ht
  iintro Ht
  iapply (wp_turn (lists X) K c _ 3 3 4 (dev6_eq c) rfl rfl) $$ [Ht]
  · isplitr; · iexact HR
    isplitr; · iexact Hlev
    iexact Ht
  iintro Ht
  iapply (wp_turn (lists X) K c _ 4 4 5 (dev7_eq c) rfl rfl) $$ [Ht]
  · isplitr; · iexact HR
    isplitr; · iexact Hlev
    iexact Ht
  iintro Ht
  iapply (wp_turn (lists X) K c _ 5 5 6 (dev8_eq c) rfl rfl) $$ [Ht]
  · isplitr; · iexact HR
    isplitr; · iexact Hlev
    iexact Ht
  iintro Ht
  iapply (wp_turn (lists X) K c _ 6 6 7 (dev9_eq c) rfl rfl) $$ [Ht]
  · isplitr; · iexact HR
    isplitr; · iexact Hlev
    iexact Ht
  iintro Ht
  unfold turning
  icases Ht with ⟨Hst, Hlast, ⟨%W2, HO⟩⟩
  ihave Hst := (Entails.of_eq ((stage_full _ _).trans (passed_split c (lists X)))) $$ Hst
  icases Hst with ⟨Hdone, Hslots⟩
  ihave Hg := (Entails.of_eq (gath_join c (lists X))) $$ [Hslots Hlast]
  · isplitl [Hslots]; · iexact Hslots
    iexact Hlast
  -- the list of the lists, and the result
  rw [wp_bind]
  iapply (wp_merge c (lists X))
  isplitl [Hg]; · iexact Hg
  iintro Hg
  unfold outAt
  iapply (wp_load 𝒱₀ (c : Thread nD τ) none Set.univ (m := oM) (Finset.subset_univ _)) $$ Hout; iintro Hout
  iapply (wp_store 𝒱₀ (c : Thread nD τ) none Set.univ (m := oM) (r := Rect.unit (s := S1024x32) ![0, 0] S1024x32.size inb_S1024x32_S1024x32_0_0) (Mk := Finset.univ) (Finset.subset_univ _)) $$ Hout; iintro Hout
  rw [out_written, wp_ret]; imodintro
  iapply Hk
  unfold bodyOut xAt outAt
  isplitl [HzB]; · iexact HzB
  isplitl [Hdone]; · iexact Hdone
  isplitl [Hcs]; · iexact Hcs
  isplitl [Hx]; · iexact Hx
  isplitl [Hw]; · (iexists _; iexact Hw)
  isplitl [Hg]; · (iexists _; iexact Hg)
  isplitl [HO]
  · iexists W2
    rw [show owedFrom c 7 = 0 from owedFrom_end c]
    iexact HO
  iexact Hout

end Cert.TopK

end
-- ==== Proof.TopK.Launch.lean ====
/-
The launch: the ring's cells set up at zero counters, the rights dealt round the ring, the credits the devices owe
each other, and the run of the whole program from any memory.
-/
module

public import proofs.«01_k».proof.Proof.TopK.Body
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.Pipeline.CollectiveSegs

@[expose] public section

set_option maxRecDepth 16384

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores -/

/-- The copies' eight, and the departures and arrivals of the seven hops. -/
abbrev OS : Type := Fin 8 ⊕ (Bool × Fin 7)
def osem : OS → SemLoc sig
  | .inl t => .dma (copyS t)
  | .inr x => csem (some x)

theorem osem_dma (k : OS) : ∃ q : DmaSem sig, osem k = .dma q ∧ 1 ≤ q.val := by
  rcases k with t | ⟨_ | _, h⟩
  · exact ⟨copyS t, rfl, by rw [copyS_val]; omega⟩
  · exact ⟨sendS h, rfl, by rw [sendS_val]; omega⟩
  · exact ⟨recvS h, rfl, by rw [recvS_val]; omega⟩

theorem copyS_ne_csem (t : Fin 8) (x : Bool × Fin 7) : osem (.inl t) ≠ osem (.inr x) := by
  rcases x with ⟨_ | _, h⟩ <;> intro e
  · have := congrArg Fin.val (SemLoc.dma.inj e); rw [copyS_val, sendS_val] at this; omega
  · have := congrArg Fin.val (SemLoc.dma.inj e); rw [copyS_val, recvS_val] at this; omega

theorem osem_injective : Function.Injective osem := by
  rintro (t | x) (t' | x') e
  · have := congrArg Fin.val (SemLoc.dma.inj e); rw [copyS_val, copyS_val] at this
    rw [show t = t' from Fin.ext (by omega)]
  · exact absurd e (copyS_ne_csem t x')
  · exact absurd e.symm (copyS_ne_csem t' x)
  · exact congrArg Sum.inr (Option.some.inj (csem_injective e))

theorem stageSem_val (w : Fin cfg0.W) (s : Fin (cfg0.win w).nbuf) : ((cfg0.win w).sem s).val = 0 := by
  revert w s; decide

theorem ownSemFacts : Pipeline.OwnSemFacts cfg0.spec osem where
  isScoped := by decide
  inj := osem_injective
  disj k w s e := by
    obtain ⟨q, hq, h1⟩ := osem_dma k
    have := congrArg Fin.val (SemLoc.dma.inj (hq.symm.trans e))
    have h0 := stageSem_val w s
    have h2 : q.val = ((cfg0.win w).sem s).val := this
    omega

omit [FloatOps F] in
theorem ownSems_split (c : Dev nD) :
    (Pipeline.ownSems0 (Ix := Unit) (Name := ℕ) (U := UU) (Lvl := ℕ) (Val := Elt F) (τ := τ) osem c : sProp 𝕄)
      = iprop(copySems c ∗ bigSep Finset.univ fun x : Bool × Fin 7 => semVal (kcell (c, some x)) 0) := by
  unfold Pipeline.ownSems0 copySems
  rw [bigSep_univ_sum]
  rfl
omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Over the ring's fifteen cells: the barrier and the fourteen others. -/
theorem over_KI (Φ : KI → sProp 𝕄) : bigSep Finset.univ Φ = iprop(Φ none ∗ bigSep Finset.univ fun x : Bool × Fin 7 => Φ (some x)) := by
  unfold bigSep
  rw [univ_option]
  show Finset.fold _ _ Φ (Finset.cons none (Finset.univ.map Function.Embedding.some) (by simp)) = _
  rw [Finset.fold_cons, Finset.fold_map]
  rfl
omit [FloatOps F] in
/-- Over the fourteen: hop by hop, the departure and the arrival. -/
theorem over_hops (Φ : Bool × Fin 7 → sProp 𝕄) :
    bigSep Finset.univ Φ = iprop((bigSep Finset.univ fun h : Fin 7 => Φ (false, h)) ∗ bigSep Finset.univ fun h : Fin 7 => Φ (true, h)) := by
  rw [bigSep_univ_prod, bigSep_univ_eq_bigSepL [false, true] (by decide) (by decide), bigSepL_cons_cons, bigSepL_singleton]
  rfl

/-! ## The launch element -/

def ringCells : Finset (GSem nD τ sig) := Finset.univ.map ⟨kcell, kcell_injective⟩

/-- The rights to credit a device's cells: two at the barrier, one at each other cell. -/
abbrev TI : Type := Bool ⊕ (Bool × Fin 7)
def tokAt (cj : Dev nD × TI) : GSem nD τ sig × ℕ × Bool :=
  match cj.2 with
  | .inl d => (kcell (cj.1, none), 0, d)
  | .inr x => (kcell (cj.1, some x), 0, false)
theorem tokAt_injective : Function.Injective tokAt := by
  rintro ⟨c, j | x⟩ ⟨c', j' | x'⟩ e
  · have h1 := congrArg Prod.fst (kcell_injective (congrArg Prod.fst e))
    have h2 := congrArg (fun y : GSem nD τ sig × ℕ × Bool => y.2.2) e
    exact Prod.ext h1 (congrArg Sum.inl h2)
  · exact absurd (congrArg Prod.snd (kcell_injective (congrArg Prod.fst e))) (fun h => by cases h)
  · exact absurd (congrArg Prod.snd (kcell_injective (congrArg Prod.fst e))) (fun h => by cases h)
  · have h : ((c, some x) : Dev nD × KI) = (c', some x') := kcell_injective (congrArg Prod.fst e)
    exact Prod.ext (Prod.mk.inj h).1 (congrArg Sum.inr (Option.some.inj (Prod.mk.inj h).2))
def ringToks : Finset (GSem nD τ sig × ℕ × Bool) := Finset.univ.map ⟨tokAt, tokAt_injective⟩

def u₀ : UU :=
  (initOf (Pipeline.cells cfgs cellOf_inj) (Pipeline.launchToks cfgs cellOf_inj), (initOf ringCells ringToks, (1 : Counters)))

omit [FloatOps F] in
theorem u₀_split : (ownU u₀ : sProp 𝕄)
    ⊢ iprop(BI.own (EP (initOf (Pipeline.cells cfgs cellOf_inj) (Pipeline.launchToks cfgs cellOf_inj))) ∗ BI.own (ER (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf ringCells ringToks, (1 : Counters)))))

variable (G : GathC F)

/-- The rights to credit device `c`'s own cells. -/
def ownToks (c : Dev nD) : sProp 𝕄 := bigSep Finset.univ fun j : TI => dutyTok ER (tokAt (c, j)).1 (tokAt (c, j)).2.1 (tokAt (c, j)).2.2

/-- What the launch element deals each device. -/
def dealt (c : Dev nD) : sProp 𝕄 :=
  iprop((bigSep Finset.univ fun k : KI => roundState ER (ringRd G) (kcell (c, k)) 0)
    ∗ (bigSep Finset.univ fun k : KI => reached ER (kcell (c, k)) 0)
    ∗ (bigSep Finset.univ fun k : KI => atPos ER (kcell (c, k)) 0 ∅ 0) ∗ ownToks c)

omit [FloatOps F] in
theorem by_device (Φ : GSem nD τ sig → sProp 𝕄) :
    bigSep ringCells Φ = bigSep Finset.univ fun c : Dev nD => bigSep Finset.univ fun k : KI => Φ (kcell (c, k)) := by
  unfold ringCells; rw [bigSep_map, bigSep_univ_prod]; rfl

omit [FloatOps F] in
theorem deal : BI.own (ER (initOf ringCells ringToks)) ⊢ (|==> bigSep Finset.univ (dealt G) : sProp 𝕄) := by
  have hT : bigSep ringToks (fun x => (dutyTok ER x.1 x.2.1 x.2.2 : sProp 𝕄)) = bigSep Finset.univ fun c : Dev nD => ownToks c := by
    unfold ringToks ownToks; rw [bigSep_map, bigSep_univ_prod]; rfl
  refine (Rounds.fund ER (ringRd G) ringCells ringToks).trans (BI.bupd_mono ?_)
  rw [by_device, by_device, by_device, hT]
  unfold dealt
  rw [bigSep_sep', bigSep_sep', bigSep_sep']
  exact BI.Entails.refl _

/-! ## Setting up the cells -/

omit [FloatOps F] in
/-- One device's cells at zero become shared cells; the copies' semaphores stay with the device. -/
theorem set_up (c : Dev nD) :
    iprop(Pipeline.ownSems0 (Ix := Unit) (Name := ℕ) (U := UU) (Lvl := ℕ) (Val := Elt F) (τ := τ) osem c ∗ unscopedSems0 c ∗ dealt G c)
      ⊢ |={Set.univ}=> iprop((bigSep Finset.univ fun k => iprop(∃ κ : ℕ, cellInv ER (ringRd G) κ (kcell (c, k))))
          ∗ (bigSep Finset.univ fun k : KI => reached ER (kcell (c, k)) 0)
          ∗ (bigSep Finset.univ fun k : KI => atPos ER (kcell (c, k)) 0 ∅ 0) ∗ ownToks c ∗ copySems c) := by
  have hinv : iprop((bigSep Finset.univ fun k : KI => semVal (kcell (c, k)) 0) ∗ bigSep Finset.univ fun k : KI => roundState ER (ringRd G) (kcell (c, k)) 0)
      ⊢ (|={Set.univ}=> bigSep Finset.univ fun k => iprop(∃ κ : ℕ, cellInv ER (ringRd G) κ (kcell (c, k))) : sProp 𝕄) := by
    rw [← bigSep_sep']
    exact (bigSep_mono fun k _ => (Rounds.body_intro ER (ringRd G) (kcell (c, k))).trans inv_alloc).trans (bigSep_fupd _ _)
  rw [ownSems_split, unscopedSems_eq]
  unfold dealt
  iintro ⟨⟨Hc, Hx⟩, Hb, Hst, Hr, Hat, Htok⟩
  ihave Hv := (Entails.of_eq (over_KI (F := F) fun k => semVal (kcell (c, k)) 0).symm) $$ [Hb Hx]
  · isplitl [Hb]; · iexact Hb
    iexact Hx
  imod hinv $$ [Hv Hst] with Hinv
  · isplitl [Hv] <;> iassumption
  imodintro
  isplitl [Hinv]; · iexact Hinv
  isplitl [Hr]; · iexact Hr
  isplitl [Hat]; · iexact Hat
  isplitl [Htok] <;> iassumption

/-- What a device uses up at a hop, its credit apart. -/
def hopGhost (c : Dev nD) (h : Fin 7) : sProp 𝕄 :=
  iprop(atPos ER (sendCell c h) 0 ∅ 0 ∗ atPos ER (recvCell c h) 0 ∅ 0 ∗ dutyTok ER (sendCell c h) 0 false
    ∗ dutyTok ER (recvCell (nxt c) h) 0 false)
/-- What each device holds alone, its credits apart. -/
def alone (c : Dev nD) : sProp 𝕄 :=
  iprop((atPos ER (barCell c) 0 ∅ 0 ∗ dutyTok ER (barCell (prv c)) 0 true ∗ dutyTok ER (barCell (nxt c)) 0 false)
    ∗ (bigSep Finset.univ fun h : Fin 7 => hopGhost c h) ∗ copySems c)
/-- What each device starts with of the ring. -/
def ghost (c : Dev nD) : sProp 𝕄 := iprop(∃ K, recs G K ∗ alone c)

omit [FloatOps F] in
theorem ownToks_eq (c : Dev nD) : (ownToks c : sProp 𝕄)
    = iprop((dutyTok ER (barCell c) 0 false ∗ dutyTok ER (barCell c) 0 true)
        ∗ (bigSep Finset.univ fun h : Fin 7 => dutyTok ER (sendCell c h) 0 false) ∗ bigSep Finset.univ fun h : Fin 7 => dutyTok ER (recvCell c h) 0 false) := by
  unfold ownToks
  rw [bigSep_univ_sum, over_hops, bigSep_univ_eq_bigSepL [false, true] (by decide) (by decide), bigSepL_cons_cons, bigSepL_singleton]
  rfl

omit [FloatOps F] in
/-- The rights dealt round the ring: each device credits its neighbours' barriers, the next device's arrivals and its own departures. -/
theorem around :
    iprop((bigSep Finset.univ fun c : Dev nD => bigSep Finset.univ fun k : KI => (atPos ER (kcell (c, k)) 0 ∅ 0 : sProp 𝕄))
      ∗ (bigSep Finset.univ fun c : Dev nD => ownToks c) ∗ bigSep Finset.univ fun c : Dev nD => copySems c)
      ⊢ bigSep Finset.univ fun c : Dev nD => (alone c : sProp 𝕄) := by
  unfold alone hopGhost
  simp only [ownToks_eq, over_KI, over_hops, bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun h : Fin 7 => dutyTok ER (recvCell c h) 0 false : sProp 𝕄))]
  iintro ⟨⟨HaB, HaS, HaR⟩, ⟨⟨HtF, HtT⟩, HtS, HtR⟩, Hc⟩
  isplitl [HaB HtF HtT]
  · isplitl [HaB]; · iexact HaB
    isplitl [HtT]; · iexact HtT
    iexact HtF
  isplitl [HaS HaR HtS HtR]
  · isplitl [HaS]; · iexact HaS
    isplitl [HaR]; · iexact HaR
    isplitl [HtS]; · iexact HtS
    iexact HtR
  iexact Hc

omit [FloatOps F] in
/-- What all may use is handed to each. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem gather_up :
    (bigSep Finset.univ fun c : Dev nD => iprop((bigSep Finset.univ fun k => iprop(∃ κ : ℕ, cellInv ER (ringRd G) κ (kcell (c, k))))
          ∗ (bigSep Finset.univ fun k : KI => reached ER (kcell (c, k)) 0)
          ∗ (bigSep Finset.univ fun k : KI => atPos ER (kcell (c, k)) 0 ∅ 0) ∗ ownToks c ∗ copySems c) : sProp 𝕄)
      ⊢ bigSep Finset.univ (ghost G) := by
  rw [bigSep_sep', bigSep_sep', bigSep_sep', bigSep_sep',
    ← bigSep_univ_prod (fun ck : Dev nD × KI => iprop(∃ κ : ℕ, cellInv ER (ringRd G) κ (kcell ck))),
    ← bigSep_univ_prod (fun ck : Dev nD × KI => (reached ER (kcell ck) 0 : sProp 𝕄))]
  iintro ⟨HI, HR, Hrest⟩
  ihave HK := (BI.bigSep_exists_pi Finset.univ (fun (ck : Dev nD × KI) (κ : ℕ) => (cellInv ER (ringRd G) κ (kcell ck) : sProp 𝕄))) $$ HI
  icases HK with ⟨%K, HI⟩
  ihave HA := (around (F := F)) $$ Hrest
  ihave Hrecs := (show iprop((bigSep Finset.univ fun ck : Dev nD × KI => cellInv ER (ringRd G) (K ck) (kcell ck))
      ∗ bigSep Finset.univ fun ck : Dev nD × KI => reached ER (kcell ck) 0) ⊢ (recs G K : sProp 𝕄) from by
        unfold recs; rw [bigSep_sep']) $$ [HI HR]
  · isplitl [HI] <;> iassumption
  iapply (share_out (R := recs G K) (Φ := fun c => alone c) fun c _ => by
    unfold ghost
    iintro ⟨H1, H2⟩
    iexists K
    isplitl [H1] <;> iassumption)
  isplitl [Hrecs] <;> iassumption

omit [FloatOps F] in
theorem glob : (bigSep Finset.univ fun c => iprop(Pipeline.ownSems0 (Ix := Unit) (Name := ℕ) (U := UU) (Lvl := ℕ) (Val := Elt F) (τ := τ) osem c
      ∗ unscopedSems0 c ∗ dealt G c) : sProp 𝕄) ⊢ |={Set.univ}=> bigSep Finset.univ (ghost G) :=
  ((bigSep_mono fun c _ => set_up G c).trans (bigSep_fupd _ _)).trans (BI.fupd_mono (gather_up G))

/-! ## The credits -/

theorem kcell_eq_iff (a b : Dev nD) (k l : KI) : kcell (a, k) = kcell (b, l) ↔ a = b ∧ k = l :=
  ⟨fun h => Prod.mk.inj (kcell_injective h), fun ⟨h1, h2⟩ => by rw [h1, h2]⟩

theorem tally_at (a b : Dev nD) (k l : KI) (n : ℕ) :
    (tallyAt (kcell (b, l)) () n : CellTallies nD τ sig Unit) (kcell (a, k)) () = if a = b ∧ k = l then n else 0 := by
  rw [tallyAt_apply]
  by_cases h : a = b ∧ k = l
  · rw [if_pos h, if_pos ⟨(kcell_eq_iff a b k l).mpr h, rfl⟩]
  · rw [if_neg h, if_neg fun h' => h ((kcell_eq_iff a b k l).mp h'.1)]

theorem owed_apply (d c : Dev nD) (k : KI) (n : ℕ) :
    owedFrom d n (kcell (c, k)) () = ∑ h ∈ Finset.univ.filter (fun h : Fin 7 => n ≤ h.val), if c = nxt d ∧ k = some (true, h) then N else 0 := by
  unfold owedFrom
  rw [Finset.sum_apply, Finsupp.finset_sum_apply]
  exact Finset.sum_congr rfl fun h _ => tally_at c (nxt d) k (some (true, h)) N

theorem eq_nxt_iff (c d : Dev nD) : c = nxt d ↔ d = prv c := ⟨fun h => by rw [h, prv_nxt], fun h => by rw [h, nxt_prv]⟩
theorem eq_prv_iff (c d : Dev nD) : c = prv d ↔ d = nxt c := ⟨fun h => by rw [h, nxt_prv], fun h => by rw [h, prv_nxt]⟩

theorem O₀_apply (d c : Dev nD) (k : KI) :
    O₀ d (kcell (c, k)) () = (∑ h : Fin 7, if c = nxt d ∧ k = some (true, h) then N else 0)
      + (if c = nxt d ∧ k = none then 1 else 0) + (if c = prv d ∧ k = none then 1 else 0) := by
  unfold O₀ O₁
  rw [Pi.add_apply, Finsupp.add_apply, Pi.add_apply, Finsupp.add_apply, owed_apply,
    show barCell (nxt d) = kcell (nxt d, none) from rfl, show barCell (prv d) = kcell (prv d, none) from rfl, tally_at, tally_at,
    Finset.filter_true_of_mem fun h _ => Nat.zero_le _]

theorem O₀_bar (d c : Dev nD) : O₀ d (kcell (c, none)) () = (if d = prv c then 1 else 0) + (if d = nxt c then 1 else 0) := by
  rw [O₀_apply, Finset.sum_eq_zero fun h _ => if_neg fun h' => (by cases h'.2), Nat.zero_add]
  simp only [and_true]
  exact congrArg₂ (· + ·) (if_congr (eq_nxt_iff c d) rfl rfl) (if_congr (eq_prv_iff c d) rfl rfl)

theorem O₀_recv (d c : Dev nD) (h : Fin 7) : O₀ d (kcell (c, some (true, h))) () = if d = prv c then N else 0 := by
  rw [O₀_apply, if_neg fun h' => (by cases h'.2), if_neg fun h' => (by cases h'.2), Finset.sum_eq_single h]
  · simp only [and_true, Nat.add_zero]
    exact if_congr (eq_nxt_iff c d) rfl rfl
  · intro b _ hb; exact if_neg fun h' => hb (by have := h'.2; cases this; rfl)
  · intro hn; exact absurd (Finset.mem_univ _) hn

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from O₀_bar d c, Finset.sum_add_distrib,
    Finset.sum_ite_eq' Finset.univ (nxt c) fun _ => 1, Finset.sum_ite_eq' Finset.univ (prv c) fun _ => 1, if_pos (Finset.mem_univ _), if_pos (Finset.mem_univ _)]

omit [FloatOps F] in
theorem launch_recv (c : Dev nD) (h : Fin 7) :
    tallyOn (recvCell c h) (launchCredit (Pipeline.owing O₀) 0 (recvCell c h)) = (tallyAt (recvCell c h) () N : CellTallies nD τ sig Unit) := by
  unfold tallyAt; refine congrArg _ (Finsupp.ext fun u => ?_); cases u
  rw [Pipeline.launchCredit_owing, Finsupp.single_eq_same, Finset.sum_congr rfl fun d _ => show O₀ d (recvCell c h) () = _ from O₀_recv d c h, Finset.sum_ite_eq' Finset.univ (prv c) fun _ => N,
    if_pos (Finset.mem_univ _)]

omit [FloatOps F] in
/-- Each device's credits: two units at its barrier, a slot's worth at each of its arrivals. -/
theorem credits (c : Dev nD) :
    (Pipeline.launchCred O₀ c : sProp 𝕄) ⊢ iprop(cred (tallyAt (barCell c) () 2) ∗ bigSep Finset.univ fun h : Fin 7 => cred (tallyAt (recvCell c h) () N)) := by
  unfold Pipeline.launchCred
  have hsub : (Finset.univ.map ⟨csem, csem_injective⟩ : Finset (SemLoc sig)) ⊆ Finset.univ := Finset.subset_univ _
  refine (BI.bigSep_subset hsub).trans ?_
  rw [bigSep_map]
  refine (Entails.of_eq (over_KI (F := F) fun k => cred (tallyOn (kcell (c, k)) (launchCredit (Pipeline.owing O₀) 0 (kcell (c, k)))))).trans ?_
  refine BI.sep_mono (Entails.of_eq (congrArg cred (launch_bar c))) ?_
  refine (Entails.of_eq (over_hops (F := F) fun x => cred (tallyOn (kcell (c, some x)) (launchCredit (Pipeline.owing O₀) 0 (kcell (c, some x)))))).trans ?_
  refine sep_elim_right.trans (bigSep_mono fun h _ => ?_)
  exact Entails.of_eq (congrArg cred (launch_recv c h))

/-! ## The pipeline's data -/

variable (m : (ℓ : Loc nD τ sig) → Buf (Elt F) ℓ) (ρ : Dev nD → PrngReg)

/-- The memory at launch: any contents, every counter zero, any generator registers. -/
abbrev st₀ : MemSt nD τ sig (Elt F) := ⟨m, fun _ => 0, ρ⟩

/-- The devices' columns at launch. -/
def cols₀ (c : Dev nD) : XC F := m ((c : Thread nD τ).loc main_arg0)

/-- What the body starts from, the buffers of the region apart. -/
def start (c : Dev nD) : sProp 𝕄 :=
  iprop(ghost (lists (cols₀ m)) c ∗ (cred (tallyAt (barCell c) () 2) ∗ bigSep Finset.univ fun h : Fin 7 => cred (tallyAt (recvCell c h) () N))
    ∗ levAts L lv ∗ xAt (cols₀ m) c)
def Φ₀ (c : Dev nD) : sProp 𝕄 := iprop(start m c ∗ (∃ w, workAt c w) ∗ ∃ g, gathAt c g)
def Φ₁ (c : Dev nD) : sProp 𝕄 :=
  iprop((semVal (barCell c) 0 ∗ xAt (cols₀ m) c) ∗ ((bigSep Finset.univ fun h : Fin 7 => hopDone c h) ∗ copySems c) ∗ (∃ w, workAt c w) ∗ ∃ g, gathAt c g)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => resultOf (cols₀ m)
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
/-- What a device holds at launch, in the order the body wants it. -/
theorem hops_join (c : Dev nD) :
    iprop((bigSep Finset.univ fun h : Fin 7 => hopGhost c h) ∗ bigSep Finset.univ fun h : Fin 7 => cred (tallyAt (recvCell c h) () N))
      ⊢ (bigSep Finset.univ fun h : Fin 7 => hopRes c h : sProp 𝕄) := by
  rw [← bigSep_sep']
  refine bigSep_mono fun h _ => show iprop(hopGhost c h ∗ cred (tallyAt (recvCell c h) () N)) ⊢ hopRes c h from ?_
  unfold hopGhost hopRes
  iintro ⟨⟨H1, H2, H3, H4⟩, H5⟩
  isplitl [H1]; · iexact H1
  isplitl [H2]; · iexact H2
  isplitl [H3]; · iexact H3
  isplitl [H4] <;> iassumption

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (resultOf (cols₀ m)))

theorem post_intro (c : Dev nD) : bodyOut (cols₀ m) c ⊢ bodyPost m ρ c := by
  unfold bodyOut bodyPost Φ₁ Dat.owesAt Pipeline.owesWithin outAt
  iintro ⟨Hb, Hh, Hc, Hx, Hw, Hg, ⟨%W, HO⟩, Ho⟩
  isplitl [Hb Hh Hc Hx Hw Hg]
  · isplitl [Hb Hx]; · isplitl [Hb] <;> iassumption
    isplitl [Hh Hc]; · isplitl [Hh] <;> iassumption
    isplitl [Hw] <;> iassumption
  isplitl [HO]
  · iexists W
    isplitr; · ipureintro; exact fun _ _ => Or.inl trivial
    iexact HO
  iexists _; isplitr; · (ipureintro; rfl)
  iexact Ho

theorem pre_elim (c : Dev nD) : bodyPre m ρ c ⊢ iprop(∃ K, bodyIn (cols₀ m) K c) := by
  unfold bodyPre Φ₀ start ghost alone bodyIn barRes Dat.owesAt Pipeline.owesWithin outAt
  iintro ⟨⟨⟨⟨%K, HR, ⟨HaB, HtT, HtF⟩, Hh, Hc⟩, ⟨HcB, HcR⟩, Hlev, Hx⟩, Hw, Hg⟩, ⟨%W, -, HO⟩, ⟨%d, %f, -, Ho⟩⟩
  iexists K
  isplitl [HR]; · iexact HR
  isplitl [Hlev]; · iexact Hlev
  isplitl [HaB HtT HtF HcB]
  · isplitl [HaB]; · iexact HaB
    isplitl [HtT]; · iexact HtT
    isplitl [HtF] <;> iassumption
  isplitl [Hh HcR]
  · iapply (hops_join (F := F) c)
    isplitl [Hh] <;> iassumption
  isplitl [Hc]; · iexact Hc
  isplitl [Hx]; · iexact Hx
  isplitl [Hw]; · iexact Hw
  isplitl [Hg]; · iexact Hg
  isplitl [HO]
  · iexists W; iexact HO
  iexists f; iexact Ho

/-- The body at the region's one point. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre m ρ c ⊢ wp frame (wpE (defs₀ (F := F)) 𝒱₀ c none) Set.univ
    (cc0_body xM (Memref.isWhole_whole _) oM (Memref.isWhole_whole _) wM (Memref.isWhole_whole _) gM (Memref.isWhole_whole _)
      cc0_scratch2 cc0_scratch3 cc0_scratch4) (fun _ => bodyPost m ρ c)
  refine (pre_elim m ρ c).trans ?_
  iintro ⟨%K, H⟩
  iapply (wp_body (cols₀ m) K c fun _ => bodyPost m ρ c)
  isplitl [H]; · iexact H
  iintro H
  iapply (post_intro m ρ c) $$ H

/-! ## The run -/

theorem share_eq (c : Dev nD) (w : Fin cfg0.W) : (dats (F := F) m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost (lists (cols₀ m)) c)
      ⊢ |={Set.univ}=> iprop(start m c ∗ emp) := by
  rw [Pipeline.unscopedRestP_none, unscopedRest0_eq]
  iintro ⟨Hx, Hlev, Hcr, -, HG⟩
  ihave Hc := (credits (F := F) c) $$ Hcr
  imodintro
  unfold start xAt cols₀
  isplitl
  · isplitl [HG]; · iexact HG
    isplitl [Hc]; · iexact Hc
    isplitl [Hlev] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ workAt gathAt
  iintro ⟨Hs, -, Hr⟩
  isplitl [Hs]; · iexact Hs
  iexact Hr

/-- What a device holds after the region, the region's own buffers and semaphores apart. -/
def leftOver (c : Dev nD) : sProp 𝕄 := iprop(unscopedSems0 c ∗ xAt (cols₀ m) c)

theorem leave (c : Dev nD) :
    (dats m ρ 0 c).Φ (Fin.last cfg0.N) ⊢ iprop(leftOver m c ∗ Pipeline.ownSems0 osem c ∗ Pipeline.scopedRest cfg0.spec c) := by
  rw [show (dats m ρ 0 c).Φ (Fin.last cfg0.N) = Φ₁ m c from rfl, scopedRest0_eq, ownSems_split, over_hops]
  unfold Φ₁ hopDone leftOver workAt gathAt
  rw [unscopedSems_eq, bigSep_sep']
  iintro ⟨Hb, ⟨Hh, Hc⟩, Hr⟩
  isplitl [Hb]; · iexact Hb
  isplitl [Hh Hc]
  · isplitl [Hc]; · iexact Hc
    iexact Hh
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by rw [show ((((cfgs 0).win w).sem s).val) = 0 from stageSem_val w s]; exact Nat.zero_le _)
    · show (levAts L lv : sProp 𝕄) ⊢ MayWait _ _ _ 0
      rw [MayWait_zero]; iintro -; iempintro

/-- What a final state shows of each device: the result computed, the columns unchanged. -/
def Final (s : MemSt nD τ sig (Elt F)) : Prop :=
  ∀ c : Dev nD, s.mem ((c : Thread nD τ).loc main_v1) = (dats m ρ 0 c).arrAt (0 : Fin 1) cfg0.N
    ∧ s.mem ((c : Thread nD τ).loc main_arg0) = m ((c : Thread nD τ).loc main_arg0)

theorem read_left (c : Dev nD) (s' : Phys nD τ sig (Elt F)) :
    iprop(leftOver m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg0) = m ((c : Thread nD τ).loc main_arg0)⌝ ∗ SI s') := by
  unfold leftOver xAt cols₀
  iintro ⟨⟨Hs, Hx⟩, -, HSI⟩
  icombine HSI Hx gives %hx
  imod (Pipeline.unscopedSems0_read (X := unscopedSems0 c) (c := c) fupd_intro s') $$ [Hs HSI] with ⟨%hs, HSI⟩
  · isplitl [Hs] <;> iassumption
  imodintro
  isplitr; · ipureintro; exact ⟨hs, Buf.eq_of_forall_mem_univ hx⟩
  iexact HSI

/-- The kernel from any memory with zero counters, for any float values: it terminates without fault, every device's
    result is the one computed from all devices' columns, the columns are unchanged and every counter is zero again. -/
theorem run_main : θ_run defs (onTc (τ := τ) (main (F := F))) (st₀ m ρ) (fun r => Final m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (lists (cols₀ m))) (G' := ghost (lists (cols₀ m))) (u₀ := u₀)
    (hu₀ := by
      iintro Hu
      ihave H := (u₀_split (F := F)) $$ Hu
      icases H with ⟨HP, HX⟩
      imod (deal (lists (cols₀ m))) $$ HX with HG
      imodintro
      isplitl [HP] <;> iassumption)
    (hglob := glob _)
    (hA := fun _ _ => rfl) (hpf := fun _ k => k.elim0)
    (X := start m) (Y := leftOver m) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := read_left m)
    (hQ := fun _ h hs => ⟨fun c => ⟨(h c).1 0, (h c).2.2.2⟩, sem_eq_zero hs fun c => (h c).2.2.1⟩)

/-- The result array at the end is the computed list. -/
theorem arr_final (c : Dev nD) : (dats (F := F) m ρ 0 c).arrAt (0 : Fin 1) cfg0.N = resultOf (cols₀ m) := by
  refine (dats (F := F) m ρ 0 c).arrAt_eq_of_after_last (0 : Fin 1) t0_0 (by decide +kernel) _ fun j => ?_
  blk_simp
  rfl

end Cert.TopK

end
-- ==== Proof.TopK.Distinct.lean ====
/-
The distinct largest values of a finite family of extended reals, taken one after the other: what one extraction
strikes out and finds, why the family's own lists may be merged, and what the values are when the family sorted in
descending order falls strictly.
-/
module

public import Mathlib.Data.EReal.Basic
public import Mathlib.Data.Finset.Lattice.Fold
public import Mathlib.Data.Fintype.Prod

@[expose] public section

noncomputable section

namespace Cert.TopK

variable {ι κ : Type} [Fintype ι] [Fintype κ]

/-- The largest entry of `a` strictly below `t`, and −∞ when there is none. -/
def next (a : ι → EReal) (t : EReal) : EReal := Finset.univ.sup fun j => if a j < t then a j else ⊥

/-- The distinct entries of `a` below +∞ in descending order, one place on: `tops a 0` is +∞, `tops a 1` the largest
    entry below it, and so on; −∞ once they have run out. -/
def tops (a : ι → EReal) : ℕ → EReal
  | 0 => ⊤
  | n + 1 => next a (tops a n)

/-- The entry struck out where it equals `t`. -/
def strike (t x : EReal) : EReal := if x = t then ⊥ else x

theorem le_next (a : ι → EReal) (t : EReal) (j : ι) (h : a j < t) : a j ≤ next a t :=
  (if_pos h).symm.trans_le (Finset.le_sup (f := fun j => if a j < t then a j else ⊥) (Finset.mem_univ j))

theorem next_le (a : ι → EReal) (t u : EReal) (h : ∀ j, a j < t → a j ≤ u) : next a t ≤ u := by
  refine Finset.sup_le fun j _ => ?_
  split
  · exact h j ‹_›
  · exact bot_le

/-- `next a t` is strictly below `t`, unless `t` is −∞. -/
theorem next_lt (a : ι → EReal) (t : EReal) (h : ⊥ < t) : next a t < t := by
  refine (Finset.sup_lt_iff h).mpr fun j _ => ?_
  split
  · assumption
  · exact h

theorem next_le_self (a : ι → EReal) (t : EReal) : next a t ≤ t := next_le a t t fun _ h => h.le

/-- `next a t` is −∞ or an entry of `a` below `t`. -/
theorem next_attained (a : ι → EReal) (t : EReal) : next a t = ⊥ ∨ ∃ j, next a t = a j ∧ a j < t := by
  rcases isEmpty_or_nonempty ι with hE | hN
  · exact .inl (by simp [next])
  · obtain ⟨j, -, hj⟩ := Finset.exists_mem_eq_sup (Finset.univ : Finset ι) Finset.univ_nonempty (fun j => if a j < t then a j else ⊥)
    have hj : next a t = if a j < t then a j else ⊥ := hj
    by_cases h : a j < t
    · exact .inr ⟨j, by rw [hj, if_pos h], h⟩
    · exact .inl (by rw [hj, if_neg h])

/-- A larger family and a larger bound give a larger entry. -/
theorem next_mono (a : ι → EReal) (b : κ → EReal) (h : ∀ j, ∃ k, a j = b k) {t u : EReal} (htu : t ≤ u) : next a t ≤ next b u :=
  next_le a t _ fun j hj => by
    obtain ⟨k, hk⟩ := h j
    rw [hk]
    exact le_next b u k (hk ▸ lt_of_lt_of_le hj htu)

theorem tops_mono (a : ι → EReal) (b : κ → EReal) (h : ∀ j, ∃ k, a j = b k) : ∀ n, tops a n ≤ tops b n
  | 0 => le_rfl
  | n + 1 => next_mono a b h (tops_mono a b h n)

/-- Families with the same entries have the same distinct largest values. -/
theorem tops_congr (a : ι → EReal) (b : κ → EReal) (h : ∀ j, ∃ k, a j = b k) (h' : ∀ k, ∃ j, b k = a j) (n : ℕ) : tops a n = tops b n :=
  le_antisymm (tops_mono a b h n) (tops_mono b a h' n)

/-- One sweep: where the family holds the entries up to `t` and −∞ elsewhere, striking out `t` leaves the entries below `t`. -/
theorem strike_upTo (x t : EReal) : strike t (if x ≤ t then x else ⊥) = if x < t then x else ⊥ := by
  unfold strike
  rcases lt_trichotomy x t with h | h | h
  · rw [if_pos h.le, if_pos h, if_neg h.ne]
  · subst h
    rw [if_pos le_rfl, if_pos rfl, if_neg (lt_irrefl x)]
  · rw [if_neg (not_le.mpr h), if_neg (not_lt.mpr h.le), ite_self]

/-- The entries below `t` are the entries up to the largest of them. -/
theorem below_eq_upTo (a : ι → EReal) (t : EReal) (j : ι) : (if a j < t then a j else ⊥) = if a j ≤ next a t then a j else ⊥ := by
  by_cases h : a j < t
  · rw [if_pos h, if_pos (le_next a t j h)]
  · rw [if_neg h]
    by_cases h' : a j ≤ next a t
    · rw [if_pos h']
      rcases eq_bot_or_bot_lt t with ht | ht
      · exact (le_bot_iff.mp (ht ▸ h'.trans (next_le_self a t))).symm
      · exact absurd (lt_of_le_of_lt h' (next_lt a t ht)) h
    · rw [if_neg h']

/-- An entry below +∞ is one of the first `n` distinct values or at most the next one. -/
theorem entry_listed (a : ι → EReal) (k : ι) (hk : a k < ⊤) : ∀ n, (∃ j < n, a k = tops a (j + 1)) ∨ a k ≤ tops a (n + 1)
  | 0 => .inr (le_next a ⊤ k hk)
  | n + 1 => by
    rcases entry_listed a k hk n with ⟨j, hj, e⟩ | h
    · exact .inl ⟨j, Nat.lt_succ_of_lt hj, e⟩
    · rcases h.eq_or_lt with e | h
      · exact .inl ⟨n, Nat.lt_succ_self n, e⟩
      · exact .inr (le_next a _ k h)

/-- Every distinct value past the first place is −∞ or an entry. -/
theorem tops_attained (a : ι → EReal) (n : ℕ) : tops a (n + 1) = ⊥ ∨ ∃ j, tops a (n + 1) = a j :=
  (next_attained a (tops a n)).imp id fun ⟨j, h, _⟩ => ⟨j, h⟩

/-- The merge: the first `m` distinct values of several families together are those of the families' own lists of `m`. -/
theorem tops_lists {D : Type} [Fintype D] (m : ℕ) (a : D → κ → EReal) :
    ∀ n ≤ m, tops (fun p : D × Fin m => tops (a p.1) (p.2.val + 1)) n = tops (fun p : D × κ => a p.1 p.2) n
  | 0, _ => rfl
  | n + 1, h => by
    have ih := tops_lists m a n (Nat.le_of_succ_le h)
    have part : ∀ d k, tops (a d) k ≤ tops (fun p : D × κ => a p.1 p.2) k := fun d => tops_mono _ _ fun j => ⟨(d, j), rfl⟩
    rw [tops, tops, ih]
    refine le_antisymm (next_le _ _ _ ?_) (next_le _ _ _ ?_)
    · rintro ⟨d, j⟩ hj
      rcases tops_attained (a d) j.val with e | ⟨k, e⟩
      · simp only [e]; exact bot_le
      · simp only [e] at hj ⊢
        exact le_next (fun p : D × κ => a p.1 p.2) _ (d, k) hj
    · rintro ⟨d, k⟩ hk
      have hk : a d k < tops (fun p : D × κ => a p.1 p.2) n := hk
      rcases entry_listed (a d) k (lt_of_lt_of_le hk le_top) n with ⟨j, hj, e⟩ | hle
      · have := le_next (fun p : D × Fin m => tops (a p.1) (p.2.val + 1)) (tops (fun p : D × κ => a p.1 p.2) n) (d, ⟨j, hj.trans h⟩)
          (by simpa only [← e] using hk)
        simpa only [← e] using this
      · refine hle.trans (le_next (fun p : D × Fin m => tops (a p.1) (p.2.val + 1)) _ (d, ⟨n, h⟩) ?_)
        exact lt_of_le_of_lt (part d (n + 1)) (next_lt _ _ (lt_of_le_of_lt bot_le hk))

/-- Sorted in descending order by `σ`, the family's entry at place `k` is at least its distinct value there. -/
theorem tops_le {N : ℕ} (a : Fin N → EReal) (σ : Fin N → Fin N) (hσ : Function.Surjective σ)
    (hdesc : ∀ i j, i ≤ j → a (σ j) ≤ a (σ i)) : ∀ (k : ℕ) (hk : k < N), tops a (k + 1) ≤ a (σ ⟨k, hk⟩)
  | 0, hk => next_le _ _ _ fun j _ => by
      obtain ⟨i, rfl⟩ := hσ j
      exact hdesc ⟨0, hk⟩ i (Nat.zero_le _)
  | k + 1, hk => next_le _ _ _ fun j hj => by
      obtain ⟨i, rfl⟩ := hσ j
      refine hdesc ⟨k + 1, hk⟩ i (not_lt.mp fun h => ?_)
      exact absurd (hj.trans_le (tops_le a σ hσ hdesc k (by omega))) (not_lt.mpr (hdesc i ⟨k, by omega⟩ (Nat.le_of_lt_succ h)))

/-- Sorted so, and falling strictly down to place `k` from below +∞, the family's entry at that place is its distinct
    value there. -/
theorem tops_sorted {N : ℕ} (a : Fin N → EReal) (σ : Fin N → Fin N) (hσ : Function.Surjective σ)
    (hdesc : ∀ i j, i ≤ j → a (σ j) ≤ a (σ i)) :
    ∀ (k : ℕ) (hk : k < N), a (σ ⟨0, Nat.zero_lt_of_lt hk⟩) < ⊤ →
      (∀ (i : ℕ) (hi : i < k), a (σ ⟨i + 1, by omega⟩) < a (σ ⟨i, by omega⟩)) → tops a (k + 1) = a (σ ⟨k, hk⟩)
  | 0, hk, h0, _ => le_antisymm (tops_le a σ hσ hdesc 0 hk) (le_next _ _ _ h0)
  | k + 1, hk, h0, hs => by
    have ih := tops_sorted a σ hσ hdesc k (by omega) h0 fun i hi => hs i (by omega)
    refine le_antisymm (tops_le a σ hσ hdesc (k + 1) hk) (le_next _ _ _ ?_)
    rw [ih]
    exact hs k (by omega)

end Cert.TopK

end
-- ==== Proof.TopK.Payload.lean ====
/-
What the body's vector operations hold at exact values, entry by entry: a tile with one value struck out, the maximum
of a row of a tile, the list with one column set, and the same over the eight gathered lists.
-/
module

public import proofs.«01_k».proof.Proof.TopK.Copies
public import proofs.«01_k».proof.Proof.TopK.Distinct
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.Pipeline.Value

@[expose] public section

set_option maxRecDepth 16384

noncomputable section

namespace Cert.TopK

open Cert.KernelIdeal Cert.KernelIdeal.Gen
open Idealize.ShloMosaic Idealize.ShloMosaic.TcCoe
open Idealize.ShloMosaic.ValueIdx

/-- The words of the two infinities. -/
theorem word_bot : FloatOps.ofBits (F := Ideal) .f32 0xFF800000#32 = (⊥ : EReal) := by
  show Ideal.ofBits .f32 0xFF800000#32 = ⊥
  simp [Ideal.ofBits, Ideal.ieee]
theorem word_top : FloatOps.ofBits (F := Ideal) .f32 0x7F800000#32 = (⊤ : EReal) := by
  show Ideal.ofBits .f32 0x7F800000#32 = ⊤
  simp [Ideal.ofBits, Ideal.ieee]

/-- The bit of an equality, selected on. -/
theorem select_eq (x t a b : EReal) : Scalar.select (FloatOps.cmpf (F := Ideal) (φ := .f32) .oeq x t) a b = if x = t then a else b := by
  show Scalar.select (BitVec.ofBool (decide (x = t))) a b = _
  by_cases h : x = t
  · rw [if_pos h, decide_eq_true h]; rfl
  · rw [if_neg h, decide_eq_false h]; rfl

/-- A maximum taken from −∞ lies below `u` exactly when every entry that it covers does. -/
theorem reduce_le {s t : Shape} {axes : List (Fin s.rank)} (src : FVec Ideal s .f32) (h : s.Reduces axes t) (hφ : FKind.Formats FTy.f32)
    (hacc : (0xFF800000#32 : BitVec FTy.f32.bits) = FKind.maximumf.neutral FTy.f32 hφ) (j : t.Idx) (u : EReal) :
    multiReduction .maximumf axes t src 0xFF800000#32 h hφ hacc j ≤ u ↔ ∀ i, h.drop i = j → src i ≤ u := by
  rw [multiReduction_maximumf_eq_fold, word_bot]
  show (Finset.univ.filter fun i => h.drop i = j).sup src ≤ u ↔ _
  rw [Finset.sup_le_iff]
  exact ⟨fun H i hi => H i (Finset.mem_filter.mpr ⟨Finset.mem_univ i, hi⟩), fun H i hi => H i (Finset.mem_filter.mp hi).2⟩

/-- The row that an index of a tile, and of the gathered lists, drops to. -/
theorem tile_row (i : S1024x1024.Idx) : (reduces_S1024x1024_S1024.drop i (0 : Fin 1)).val = (i (0 : Fin 2)).val :=
  Shape.Reduces.drop_apply_val_of_eq reduces_S1024x1024_S1024 i (0 : Fin 1) (0 : Fin 2)
theorem gathered_row (i : S8x1024x32.Idx) : (reduces_S8x1024x32_S1024.drop i (0 : Fin 1)).val = (i (1 : Fin 3)).val :=
  Shape.Reduces.drop_apply_val_of_eq reduces_S8x1024x32_S1024 i (0 : Fin 1) (1 : Fin 3)

/-! ## A tile -/

/-- The tile as stored back: the value of its row's `prev` struck out. -/
theorem tile_struck (prev : FVec Ideal S1024x1 .f32) (v : FVec Ideal S1x1024x1024 .f32) (r c : Fin 1024) :
    k0_pay10 (F := Ideal) prev v (ix2 r c) = strike (prev (ix2 r (0 : Fin 1))) (v (ix3 (0 : Fin 1) r c)) := by
  have e1 : shapeCast S1024x1024 v shapeCasts_S1x1024x1024_S1024x1024 (ix2 r c) = v (ix3 (0 : Fin 1) r c) := shapeCast_1ab_ab_apply _ _ _ _
  have e2 : broadcastTo S1024x1024 prev broadcasts_S1024x1_S1024x1024 (ix2 r c) = prev (ix2 r (0 : Fin 1)) :=
    broadcastTo_apply _ _ _ _ fun a => by fin_cases a <;> rfl
  unfold k0_pay10 strike
  show Scalar.select (FloatOps.cmpf .oeq (shapeCast S1024x1024 v _ (ix2 r c)) (broadcastTo S1024x1024 prev _ (ix2 r c)))
    (FloatOps.ofBits .f32 0xFF800000#32) (shapeCast S1024x1024 v _ (ix2 r c)) = _
  rw [e1, e2, select_eq, word_bot]

theorem tile_stored (prev : FVec Ideal S1024x1 .f32) (v : FVec Ideal S1x1024x1024 .f32) (z : Fin 1) (r c : Fin 1024) :
    k0_pay11 (F := Ideal) prev v (ix3 z r c) = strike (prev (ix2 r (0 : Fin 1))) (v (ix3 (0 : Fin 1) r c)) :=
  (shapeCast_ab_1ab_apply _ _ _ _ _).trans (tile_struck prev v r c)

/-- The carried maximum after the tile: at most `u` exactly when it was and every entry of the tile's row, struck, is. -/
theorem tile_max (prev acc : FVec Ideal S1024x1 .f32) (v : FVec Ideal S1x1024x1024 .f32) (r : Fin 1024) (u : EReal) :
    k0_pay12 (F := Ideal) prev acc v (ix2 r (0 : Fin 1)) ≤ u
      ↔ acc (ix2 r (0 : Fin 1)) ≤ u ∧ ∀ c, strike (prev (ix2 r (0 : Fin 1))) (v (ix3 (0 : Fin 1) r c)) ≤ u := by
  unfold k0_pay12
  show max (acc (ix2 r (0 : Fin 1))) (shapeCast S1024x1 _ _ (ix2 r (0 : Fin 1))) ≤ u ↔ _
  rw [shapeCast_a_a1_apply, max_le_iff]
  refine and_congr_right fun _ => (reduce_le _ reduces_S1024x1024_S1024 (.inl rfl) rfl _ _).trans ⟨fun H c => ?_, fun H i hi => ?_⟩
  · rw [← tile_struck]
    refine H _ (funext fun b => Fin.ext ?_)
    fin_cases b
    exact tile_row _
  · have e : (i 0) = r := Fin.ext ((tile_row i).symm.trans (congrArg (fun k : S1024.Idx => (k (0 : Fin 1)).val) hi))
    rw [eq_ix2 i, e]
    exact (tile_struck prev v r (i 1)).trans_le (H (i 1))

/-! ## The list -/

/-- The bit that says whether a column is the trip's, selected on. -/
theorem select_col {k n : ℕ} (hk : k < 32) (hn : n < 32) (a b : EReal) :
    Scalar.select (IntOp.cmpi .eq (BitVec.ofNat 32 k) (Scf.iv 0#32 1#32 n)) a b = if k = n then a else b := by
  have e : Scf.iv 0#32 1#32 n = BitVec.ofNat 32 n := by
    rw [Scf.iv_eq_ofInt]
    simp
  have hb : IntOp.cmpi .eq (BitVec.ofNat 32 k) (BitVec.ofNat 32 n) = BitVec.ofBool (decide (k = n)) := by
    show BitVec.ofBool (BitVec.ofNat 32 k == BitVec.ofNat 32 n) = _
    congr 1
    rw [beq_eq_decide]
    refine decide_eq_decide.mpr ⟨fun h => ?_, fun h => by rw [h]⟩
    have := congrArg BitVec.toNat h
    rwa [BitVec.toNat_ofNat, BitVec.toNat_ofNat, Nat.mod_eq_of_lt (by omega), Nat.mod_eq_of_lt (by omega)] at this
  rw [e, hb]
  by_cases h : k = n
  · rw [if_pos h, decide_eq_true h]; rfl
  · rw [if_neg h, decide_eq_false h]; rfl

/-- The list with the trip's column set to the maximum found. -/
theorem list_set (i : Fin k0_t1_loop.trips) (hi : i.val < 32) (l : FVec Ideal S1024x32 .f32) (m : FVec Ideal S1024x1 .f32) (r : Fin 1024) (k : Fin 32) :
    k0_pay13 (F := Ideal) i l m (ix2 r k) = if k.val = i.val then m (ix2 r (0 : Fin 1)) else l (ix2 r k) := by
  have e1 : iota .tc S1024x32 32 [1] iota_S1024x32_d1_w32 (ix2 r k) = BitVec.ofNat 32 k.val := iota_single_apply _ _ _ _ _ _
  have e2 : broadcastTo S1024x32 (shapeCast S1024x1 m shapeCasts_S1024x1_S1024x1) broadcasts_S1024x1_S1024x32 (ix2 r k) = m (ix2 r (0 : Fin 1)) := by
    rw [shapeCast_self]
    exact broadcastTo_apply _ _ _ _ fun a => by fin_cases a <;> rfl
  unfold k0_pay13
  show Scalar.select (IntOp.cmpi .eq (iota .tc S1024x32 32 [1] _ (ix2 r k)) (Scf.iv 0#32 1#32 i.val))
    (broadcastTo S1024x32 (shapeCast S1024x1 m _) _ (ix2 r k)) (l (ix2 r k)) = _
  rw [e1, e2, select_col k.isLt hi]

/-! ## The gathered lists -/

theorem gathered_struck (prev : FVec Ideal S1x1024x1 .f32) (g : FVec Ideal S8x1024x32 .f32) (d : Fin 8) (r : Fin 1024) (c : Fin 32) :
    k0_pay3 (F := Ideal) prev g (ix3 d r c) = strike (prev (ix3 (0 : Fin 1) r (0 : Fin 1))) (g (ix3 d r c)) := by
  have e2 : broadcastTo S8x1024x32 prev broadcasts_S1x1024x1_S8x1024x32 (ix3 d r c) = prev (ix3 (0 : Fin 1) r (0 : Fin 1)) :=
    broadcastTo_apply _ _ _ _ fun a => by fin_cases a <;> rfl
  unfold k0_pay3 strike
  show Scalar.select (FloatOps.cmpf .oeq (g (ix3 d r c)) (broadcastTo S8x1024x32 prev _ (ix3 d r c)))
    (FloatOps.ofBits .f32 0xFF800000#32) (g (ix3 d r c)) = _
  rw [e2, select_eq, word_bot]

theorem gathered_stored (prev : FVec Ideal S1x1024x1 .f32) (g : FVec Ideal S8x1024x32 .f32) (d : Fin 8) (r : Fin 1024) (c : Fin 32) :
    k0_pay4 (F := Ideal) prev g (ix3 d r c) = strike (prev (ix3 (0 : Fin 1) r (0 : Fin 1))) (g (ix3 d r c)) := by
  unfold k0_pay4
  show shapeCast S8x1024x32 _ _ _ = _
  rw [shapeCast_self]
  exact gathered_struck prev g d r c

/-- The maximum found in row `r` of the eight lists: at most `u` exactly when every entry of the row, struck, is. -/
theorem gathered_max (prev : FVec Ideal S1x1024x1 .f32) (g : FVec Ideal S8x1024x32 .f32) (r : Fin 1024) (u : EReal) :
    k0_pay5 (F := Ideal) prev g (ix3 (0 : Fin 1) r (0 : Fin 1)) ≤ u
      ↔ ∀ (d : Fin 8) (c : Fin 32), strike (prev (ix3 (0 : Fin 1) r (0 : Fin 1))) (g (ix3 d r c)) ≤ u := by
  unfold k0_pay5
  have e : ∀ (x : FVec Ideal S1024 .f32), shapeCast S1x1024x1 x shapeCasts_S1024_S1x1024x1 (ix3 (0 : Fin 1) r (0 : Fin 1)) = x (ix1 r) := fun x =>
    shapeCast_apply x _ _ _ (by
      rw [Shape.rowMajor_val_three, Shape.rowMajor_val_one]
      show r.val = (0 * 1024 + r.val) * 1 + 0
      omega)
  show shapeCast S1x1024x1 _ _ _ ≤ u ↔ _
  rw [e]
  refine (reduce_le _ reduces_S8x1024x32_S1024 (.inl rfl) rfl _ _).trans ⟨fun H d c => ?_, fun H i hi => ?_⟩
  · rw [← gathered_struck]
    refine H _ (funext fun b => Fin.ext ?_)
    fin_cases b
    exact gathered_row _
  · have e : (i 1) = r := Fin.ext ((gathered_row i).symm.trans (congrArg (fun k : S1024.Idx => (k (0 : Fin 1)).val) hi))
    rw [eq_ix3 i, e]
    exact (gathered_struck prev g (i 0) r (i 2)).trans_le (H (i 0) (i 2))

theorem gathered_set (i : Fin k0_t3_loop.trips) (hi : i.val < 32) (l : FVec Ideal S1024x32 .f32) (prev : FVec Ideal S1x1024x1 .f32)
    (g : FVec Ideal S8x1024x32 .f32) (r : Fin 1024) (k : Fin 32) :
    k0_pay6 (F := Ideal) i l prev g (ix2 r k)
      = if k.val = i.val then k0_pay5 (F := Ideal) prev g (ix3 (0 : Fin 1) r (0 : Fin 1)) else l (ix2 r k) := by
  have e1 : iota .tc S1024x32 32 [1] iota_S1024x32_d1_w32 (ix2 r k) = BitVec.ofNat 32 k.val := iota_single_apply _ _ _ _ _ _
  have e2 : broadcastTo S1024x32 (shapeCast S1024x1 (shapeCast S1024x1 (k0_pay5 (F := Ideal) prev g) shapeCasts_S1x1024x1_S1024x1)
      shapeCasts_S1024x1_S1024x1) broadcasts_S1024x1_S1024x32 (ix2 r k) = k0_pay5 (F := Ideal) prev g (ix3 (0 : Fin 1) r (0 : Fin 1)) := by
    rw [shapeCast_self]
    exact (broadcastTo_apply _ _ _ (ix2 r (0 : Fin 1)) fun a => by fin_cases a <;> rfl).trans (shapeCast_1ab_ab_apply _ _ _ _)
  unfold k0_pay6
  show Scalar.select (IntOp.cmpi .eq (iota .tc S1024x32 32 [1] _ (ix2 r k)) (Scf.iv 0#32 1#32 i.val))
    (broadcastTo S1024x32 (shapeCast S1024x1 (shapeCast S1024x1 (k0_pay5 (F := Ideal) prev g) _) _) _ (ix2 r k)) (l (ix2 r k)) = _
  rw [e1, e2, select_col k.isLt hi]

end Cert.TopK

end
-- ==== Proof.TopK.Sweeps.lean ====
/-
What the loops of the body hold at exact values: the work buffer during the sweeps, a device's list of its columns'
distinct largest values, and the result, the distinct largest values of the eight lists.
-/
module

public import proofs.«01_k».proof.Proof.TopK.Payload
public import proofs.«01_k».proof.Proof.TopK.Body

@[expose] public section

set_option maxRecDepth 16384

noncomputable section

namespace Cert.TopK

open Cert.KernelIdeal Cert.KernelIdeal.Gen
open Idealize.ShloMosaic Idealize.ShloMosaic.TcCoe
open Idealize.ShloMosaic.ValueIdx

theorem trips1 : k0_t1_loop.trips = 32 := by decide
theorem trips2 : k0_t2_loop.trips = 8 := by decide
theorem trips3 : k0_t3_loop.trips = 32 := by decide

/-! ## A slot of the work buffer -/

/-- The work buffer's entry of slot `s`, row `r`, column `c`. -/
def entry (w : WorkC Ideal) (s : Fin 8) (r c : Fin 1024) : EReal := w (ix3 (n0 := 8) (n1 := 1024) (n2 := 1024) s r c : S8x1024x1024.Idx)

theorem k0_off1_eq : ∀ t : Fin k0_t2_loop.trips, k0_off1 t = ![t.val, 0, 0] := by decide

/-- Entry `(r, c)` of the slot that trip `t` addresses. -/
theorem slot_emb (t : Fin 8) (ht : t.val < k0_t2_loop.trips) (z : Fin 1) (r c : Fin 1024) :
    (wR ⟨t.val, ht⟩).emb (ix3 z r c) = (ix3 (n0 := 8) (n1 := 1024) (n2 := 1024) t r c : S8x1024x1024.Idx) := by
  have hz : z.val = 0 := by omega
  have e0 : k0_off1 ⟨t.val, ht⟩ 0 = t.val := congrFun (k0_off1_eq _) 0
  have e1 : k0_off1 ⟨t.val, ht⟩ 1 = 0 := congrFun (k0_off1_eq _) 1
  have e2 : k0_off1 ⟨t.val, ht⟩ 2 = 0 := congrFun (k0_off1_eq _) 2
  funext x
  refine Fin.ext ?_
  fin_cases x
  · show k0_off1 ⟨t.val, ht⟩ 0 + 1 * z.val = t.val
    omega
  · show k0_off1 ⟨t.val, ht⟩ 1 + 1 * r.val = r.val
    omega
  · show k0_off1 ⟨t.val, ht⟩ 2 + 1 * c.val = c.val
    omega

theorem slot_read (t : Fin 8) (ht : t.val < k0_t2_loop.trips) (w : WorkC Ideal) (z : Fin 1) (r c : Fin 1024) :
    rdSlot ⟨t.val, ht⟩ w (ix3 z r c) = entry w t r c :=
  congrArg w (slot_emb t ht z r c)

theorem slot_written (t : Fin 8) (ht : t.val < k0_t2_loop.trips) (w : WorkC Ideal) (v : FVec Ideal S1x1024x1024 .f32) (s : Fin 8) (r c : Fin 1024) :
    entry (wrSlot ⟨t.val, ht⟩ w v) s r c = if s = t then v (ix3 (0 : Fin 1) r c) else entry w s r c := by
  unfold wrSlot entry
  by_cases h : s = t
  · subst h
    rw [if_pos rfl, ← slot_emb s ht (0 : Fin 1) r c]
    exact View.write_emb_of_mem (v := (wM.access (wR ⟨s.val, ht⟩) : View sig .tc _ _ _)) w v (Finset.mem_univ (ix3 (0 : Fin 1) r c))
  · rw [if_neg h]
    refine View.write_of_not_mem _ _ _ fun hm => h ?_
    have hm : (ix3 (n0 := 8) (n1 := 1024) (n2 := 1024) s r c : S8x1024x1024.Idx) ∈ (wR ⟨t.val, ht⟩).set := by
      have e : (wM.access (wR ⟨t.val, ht⟩) : View sig .tc _ _ _).set = (wR ⟨t.val, ht⟩).set := View.set_slice_whole _ _
      rw [← e]
      exact hm
    rw [Rect.mem_set_unit] at hm
    have e0 : k0_off1 ⟨t.val, ht⟩ 0 = t.val := congrFun (k0_off1_eq _) 0
    have h0 : k0_off1 ⟨t.val, ht⟩ 0 ≤ s.val ∧ s.val < k0_off1 ⟨t.val, ht⟩ 0 + 1 := hm 0
    exact Fin.ext (by omega)

/-! ## One sweep over the eight tiles -/

/-- The carried maximum of row `r`. -/
def ofRow (m : FVec Ideal S1024x1 .f32) (r : Fin 1024) : EReal := m (ix2 r (0 : Fin 1))

/-- Before trip `n` the first `n` slots have the last maximum struck out, and the carried maximum is over those. -/
theorem inner_value (prev : FVec Ideal S1024x1 .f32) (w : WorkC Ideal) (r : Fin 1024) : ∀ n ≤ 8,
    (∀ s c, entry (inner prev w n).1 s r c = if s.val < n then strike (ofRow prev r) (entry w s r c) else entry w s r c)
    ∧ ∀ u, ofRow (inner prev w n).2 r ≤ u ↔ ∀ s : Fin 8, s.val < n → ∀ c, strike (ofRow prev r) (entry w s r c) ≤ u
  | 0, _ => ⟨fun s c => (if_neg (Nat.not_lt_zero _)).symm, fun u =>
      ⟨fun _ s h => absurd h (Nat.not_lt_zero _), fun _ => (show ofRow (k0_pay9 (F := Ideal)) r = ⊥ from word_bot).trans_le bot_le⟩⟩
  | n + 1, hn => by
    obtain ⟨ihw, ihm⟩ := inner_value prev w r n (Nat.le_of_succ_le hn)
    have ht : n < k0_t2_loop.trips := trips2.symm ▸ hn
    have hs := inner_succ prev w ⟨n, ht⟩
    have hread : ∀ c, rdSlot ⟨n, ht⟩ (inner prev w n).1 (ix3 (0 : Fin 1) r c) = entry w ⟨n, hn⟩ r c := fun c =>
      (slot_read ⟨n, hn⟩ ht _ _ _ _).trans ((ihw ⟨n, hn⟩ c).trans (if_neg (lt_irrefl n)))
    have hs1 := congrArg Prod.fst hs
    have hs2 := congrArg Prod.snd hs
    simp only at hs1 hs2
    refine ⟨fun s c => ?_, fun u => ?_⟩
    · rw [hs1]
      refine (slot_written ⟨n, hn⟩ ht _ _ s r c).trans ?_
      by_cases h : s = ⟨n, hn⟩
      · subst h
        rw [if_pos rfl, if_pos (Nat.lt_succ_self n), tile_stored, hread]
        rfl
      · have hne : s.val ≠ n := fun e => h (Fin.ext e)
        rw [if_neg h]
        refine (ihw s c).trans ?_
        by_cases h' : s.val < n
        · rw [if_pos h', if_pos (by omega)]
        · rw [if_neg h', if_neg (by omega)]
    · rw [hs2]
      refine (tile_max prev (inner prev w n).2 _ r u).trans ?_
      refine (and_congr_left' (ihm u)).trans ⟨fun H s h c => ?_, fun H => ⟨fun s h => H s (by omega), fun c => ?_⟩⟩
      · rcases Nat.lt_succ_iff_lt_or_eq.mp h with h | h
        · exact H.1 s h c
        · have := H.2 c
          rw [hread] at this
          rwa [show s = ⟨n, hn⟩ from Fin.ext h]
      · rw [hread]
        exact H ⟨n, hn⟩ (Nat.lt_succ_self n) c

/-- A row of the work buffer, as one family over slots and columns. -/
def workRow (w : WorkC Ideal) (r : Fin 1024) : Fin 8 × Fin 1024 → EReal := fun p => entry w p.1 r p.2

/-- One whole sweep: where the row holds the entries of `a` up to the last maximum `t`, it comes to hold those below
    `t`, and their maximum is found. -/
theorem sweep (prev : FVec Ideal S1024x1 .f32) (w : WorkC Ideal) (r : Fin 1024) (a : Fin 8 × Fin 1024 → EReal)
    (h : ∀ p, workRow w r p = if a p ≤ ofRow prev r then a p else ⊥) :
    (∀ p, workRow (inner prev w k0_t2_loop.trips).1 r p = if a p < ofRow prev r then a p else ⊥)
    ∧ ofRow (inner prev w k0_t2_loop.trips).2 r = next a (ofRow prev r) := by
  rw [trips2]
  obtain ⟨hw, hm⟩ := inner_value prev w r 8 le_rfl
  have hstrike : ∀ p : Fin 8 × Fin 1024, strike (ofRow prev r) (entry w p.1 r p.2) = if a p < ofRow prev r then a p else ⊥ := fun p =>
    (congrArg (strike (ofRow prev r)) (h p)).trans (strike_upTo _ _)
  refine ⟨fun p => ((hw p.1 p.2).trans (if_pos p.1.isLt)).trans (hstrike p), eq_of_forall_ge_iff fun u => (hm u).trans ?_⟩
  refine Iff.trans ?_ Finset.sup_le_iff.symm
  exact ⟨fun H p _ => (hstrike p).symm.trans_le (H p.1 p.1.isLt p.2), fun H s _ c => (hstrike (s, c)).trans_le (H (s, c) (Finset.mem_univ _))⟩

/-! ## The thirty-two sweeps -/

theorem outer_value (w : WorkC Ideal) (r : Fin 1024) : ∀ n ≤ 32,
    (∀ p, workRow (outer w n).1 r p = if workRow w r p ≤ tops (workRow w r) n then workRow w r p else ⊥)
    ∧ ofRow (outer w n).2.2 r = tops (workRow w r) n
    ∧ ∀ k : Fin 32, k.val < n → (outer w n).2.1 (ix2 r k) = tops (workRow w r) (k.val + 1)
  | 0, _ => ⟨fun p => (if_pos le_top).symm, word_top, fun k h => absurd h (Nat.not_lt_zero _)⟩
  | n + 1, hn => by
    obtain ⟨ihw, ihp, ihl⟩ := outer_value w r n (Nat.le_of_succ_le hn)
    have ht : n < k0_t1_loop.trips := trips1.symm ▸ hn
    have hs := outer_succ w ⟨n, ht⟩
    have hs1 := congrArg Prod.fst hs
    have hs2 := congrArg (fun q => q.2.1) hs
    have hs3 := congrArg (fun q => q.2.2) hs
    simp only at hs1 hs2 hs3
    obtain ⟨hw, hm⟩ := sweep (outer w n).2.2 (outer w n).1 r (workRow w r) fun p => by rw [ihp]; exact ihw p
    rw [ihp] at hw hm
    refine ⟨fun p => ?_, ?_, fun k hk => ?_⟩
    · rw [hs1]
      exact (hw p).trans (below_eq_upTo _ _ p)
    · rw [hs3]
      exact hm
    rw [hs2]
    refine (list_set ⟨n, ht⟩ hn _ _ r k).trans ?_
    by_cases h : k.val = n
    · rw [if_pos h, h]
      exact hm
    · rw [if_neg h]
      exact ihl k (by omega)

/-- A device's list: in row `r`, the 32 distinct largest values of the row of its columns. -/
theorem localList_value (x : XC Ideal) (r : Fin 1024) (k : Fin 32) : localList x (ix2 r k) = tops (workRow (work0 x) r) (k.val + 1) := by
  unfold localList
  rw [trips1]
  exact (outer_value (work0 x) r 32 le_rfl).2.2 k k.isLt

/-! ## The merge of the eight lists -/

/-- A row of the gathered lists, as one family over devices and places. -/
def gathRow (g : GathC Ideal) (r : Fin 1024) : Fin 8 × Fin 32 → EReal :=
  fun p => g (ix3 (n0 := 8) (n1 := 1024) (n2 := 32) p.1 r p.2 : S8x1024x32.Idx)
def ofRow3 (m : FVec Ideal S1x1024x1 .f32) (r : Fin 1024) : EReal := m (ix3 (0 : Fin 1) r (0 : Fin 1))

/-- One extraction from the gathered lists. -/
theorem extraction (prev : FVec Ideal S1x1024x1 .f32) (g : GathC Ideal) (r : Fin 1024) (a : Fin 8 × Fin 32 → EReal)
    (h : ∀ p, gathRow g r p = if a p ≤ ofRow3 prev r then a p else ⊥) :
    (∀ p, gathRow (k0_pay4 prev g) r p = if a p < ofRow3 prev r then a p else ⊥)
    ∧ ofRow3 (k0_pay5 (F := Ideal) prev g) r = next a (ofRow3 prev r) := by
  have hstrike : ∀ p : Fin 8 × Fin 32, strike (ofRow3 prev r) (gathRow g r p) = if a p < ofRow3 prev r then a p else ⊥ := fun p =>
    (congrArg (strike (ofRow3 prev r)) (h p)).trans (strike_upTo _ _)
  refine ⟨fun p => (gathered_stored prev g p.1 r p.2).trans (hstrike p), eq_of_forall_ge_iff fun u => (gathered_max prev g r u).trans ?_⟩
  refine Iff.trans ?_ Finset.sup_le_iff.symm
  exact ⟨fun H p _ => (hstrike p).symm.trans_le (H p.1 p.2), fun H d c => (hstrike (d, c)).trans_le (H (d, c) (Finset.mem_univ _))⟩

theorem merge_value (g : GathC Ideal) (r : Fin 1024) : ∀ n ≤ 32,
    (∀ p, gathRow (merge g n).1 r p = if gathRow g r p ≤ tops (gathRow g r) n then gathRow g r p else ⊥)
    ∧ ofRow3 (merge g n).2.2 r = tops (gathRow g r) n
    ∧ ∀ k : Fin 32, k.val < n → (merge g n).2.1 (ix2 r k) = tops (gathRow g r) (k.val + 1)
  | 0, _ => ⟨fun p => (if_pos le_top).symm, word_top, fun k h => absurd h (Nat.not_lt_zero _)⟩
  | n + 1, hn => by
    obtain ⟨ihw, ihp, ihl⟩ := merge_value g r n (Nat.le_of_succ_le hn)
    have ht : n < k0_t3_loop.trips := trips3.symm ▸ hn
    have hs := merge_succ g ⟨n, ht⟩
    have hs1 := congrArg Prod.fst hs
    have hs2 := congrArg (fun q => q.2.1) hs
    have hs3 := congrArg (fun q => q.2.2) hs
    simp only at hs1 hs2 hs3
    obtain ⟨hw, hm⟩ := extraction (merge g n).2.2 (merge g n).1 r (gathRow g r) fun p => by rw [ihp]; exact ihw p
    rw [ihp] at hw hm
    refine ⟨fun p => ?_, ?_, fun k hk => ?_⟩
    · rw [hs1]
      exact (hw p).trans (below_eq_upTo _ _ p)
    · rw [hs3]
      exact hm
    rw [hs2]
    refine (gathered_set ⟨n, ht⟩ hn _ _ _ r k).trans ?_
    by_cases h : k.val = n
    · rw [if_pos h, h]
      exact hm
    · rw [if_neg h]
      exact ihl k (by omega)

/-- Row `r` of all eight devices' columns, as one family over devices, tiles and columns of a tile. -/
def wholeRow (X : Dev nD → XC Ideal) (r : Fin 1024) : Fin 8 × (Fin 8 × Fin 1024) → EReal := fun p => workRow (work0 (X p.1)) r p.2

/-- The result: in row `r`, the 32 distinct largest values of the whole row. -/
theorem result_value (X : Dev nD → XC Ideal) (r : Fin 1024) (k : Fin 32) : resultOf X (ix2 r k) = tops (wholeRow X r) (k.val + 1) := by
  unfold resultOf
  rw [trips3, (merge_value (lists X) r 32 le_rfl).2.2 k k.isLt]
  have e : gathRow (lists X) r = fun p : Fin 8 × Fin 32 => tops (workRow (work0 (X p.1)) r) (p.2.val + 1) :=
    funext fun p => localList_value (X p.1) r p.2
  rw [e]
  exact tops_lists 32 (fun d : Fin 8 => workRow (work0 (X d)) r) (k.val + 1) k.isLt

end Cert.TopK

end
-- ==== Proof.TopK.Sorted.lean ====
/-
The stable sort of a row of negated entries, as the reference and the mask both run it: one arrangement of the row's
places, in which the entries fall.
-/
module

public import proofs.«01_k».proof.ReferenceIdeal
public import proofs.«01_k».proof.On_untied
public import proofs.«01_k».proof.Proof.TopK.Payload
public import Idealize.ShloMosaic.Lib.SortFacts

@[expose] public section

set_option maxRecDepth 16384

noncomputable section

namespace Cert.TopK

open Idealize.ShloMosaic Idealize.ShloMosaic.TcCoe
open Idealize.ShloMosaic.ValueIdx

/-- The argument of the reference: 1024 rows of 65536 entries. -/
abbrev Whole : Type := FVec Ideal (⟨2, ![1024, 65536]⟩ : Shape) .f32

/-- Row `r` of the argument. -/
def row (x : Whole) (r : Fin 1024) (j : Fin 65536) : EReal := x (ix2 r j)

/-- The places of row `r`, in the order of a stable sort of its negated entries. -/
def order (x : Whole) (r : Fin 1024) : Fin 65536 → Fin 65536 :=
  sortedFrom fun k k' => decide (-row x r k < -row x r k')

theorem order_surjective (x : Whole) (r : Fin 1024) : Function.Surjective (order x r) := sortedFrom_surjective _

/-- In that order the entries never rise. -/
theorem order_falls (x : Whole) (r : Fin 1024) (i j : Fin 65536) (h : i ≤ j) : row x r (order x r j) ≤ row x r (order x r i) := by
  rcases h.eq_or_lt with rfl | h
  · exact le_rfl
  have e := sortedFrom_noInversion (fun k k' => decide (-row x r k < -row x r k')) (fun k k' => decide (-row x r k < -row x r k'))
    (fun a b h => decide_eq_false (lt_asymm (of_decide_eq_true h))) (fun _ _ h => h)
    (fun a b c h h' => decide_eq_false (not_lt.mpr ((not_lt.mp (of_decide_eq_false h')).trans (not_lt.mp (of_decide_eq_false h))))) i j h
  exact EReal.neg_le_neg_iff.mp (not_lt.mp (of_decide_eq_false e))

/-- Zero in place of a zero, and NaN's word in place of what differs from itself, change no exact value. -/
theorem canonical (a z n : EReal) (hz : z = 0) :
    Scalar.select (FloatOps.cmpf (F := Ideal) (φ := .f32) .une a a) n (Scalar.select (FloatOps.cmpf (F := Ideal) (φ := .f32) .oeq a z) z a) = a := by
  rw [select_eq]
  show Scalar.select (BitVec.ofBool (decide (a ≠ a))) n _ = a
  rw [decide_eq_false (fun h => h rfl)]
  show (if a = z then z else a) = a
  by_cases h : a = z
  · rw [if_pos h, h]
  · rw [if_neg h]

theorem word_zero : FloatOps.ofBits (F := Ideal) .f32 0x00000000#32 = (0 : EReal) := by
  show Ideal.ofBits .f32 0x00000000#32 = 0
  simp [Ideal.ofBits, Ideal.ieee]

/-- The mask's comparator is the order of the extended reals. -/
theorem mask_before (a b : EReal) : Cert.On_untied.comparator_f32_d1 (F := Ideal) a b = BitVec.ofBool (decide (a < b)) := by
  unfold Cert.On_untied.comparator_f32_d1
  dsimp only
  rw [canonical a _ _ word_zero, canonical b _ _ word_zero]
  rfl

/-- The reference's comparator is the order of the first components. -/
theorem reference_before (a b : EReal × BitVec 32) :
    Cert.ReferenceIdeal.comparator_f32_i32_d1 (F := Ideal) a b = BitVec.ofBool (decide (a.1 < b.1)) := by
  unfold Cert.ReferenceIdeal.comparator_f32_i32_d1
  dsimp only
  rw [canonical a.1 _ _ word_zero, canonical b.1 _ _ word_zero]
  rfl

/-- A sort along the second axis, read in row `r`. -/
theorem sorted_row {ι α : Type} {n N : Nat} (cmp : ι → ι → BitVec 1) (rows : (⟨2, ![n, N]⟩ : Shape).Idx → ι)
    (x : (⟨2, ![n, N]⟩ : Shape).Idx → α) (r : Fin n) (j : Fin N) (before : Fin N → Fin N → Bool)
    (hb : ∀ k k', cmp (rows (ix2 r k)) (rows (ix2 r k')) = BitVec.ofBool (before k k')) :
    Host.sortBy ⟨2, ![n, N]⟩ 1 cmp rows x (ix2 r j) = x (ix2 r (sortedFrom before j)) := by
  have along (k : Fin N) : (ix2 r j).along (1 : Fin 2) k = ix2 r k := by
    funext a
    match a with
    | ⟨0, _⟩ => rfl
    | ⟨1, _⟩ => rfl
  have hB : (fun k k' : Fin N => cmp (rows ((ix2 r j).along (1 : Fin 2) k)) (rows ((ix2 r j).along (1 : Fin 2) k')) == 1#1) = before := by
    funext k k'
    rw [along, along, hb]
    cases before k k' <;> rfl
  show x ((ix2 r j).along (1 : Fin 2) (sortedFrom (fun k k' : Fin N => cmp (rows ((ix2 r j).along (1 : Fin 2) k)) (rows ((ix2 r j).along (1 : Fin 2) k')) == 1#1) j)) = _
  rw [hB]
  exact congrArg x (along _)

/-- The mask's sort of the negated argument. -/
theorem mask_sorted (x : Whole) (r : Fin 1024) (j : Fin 65536) :
    Cert.On_untied.fn_sort (F := Ideal) (Host.negf x) (ix2 r j) = -row x r (order x r j) := by
  show Host.sort _ 1 Cert.On_untied.comparator_f32_d1 (Host.negf x) (ix2 r j) = _
  rw [Host.sort_eq_sortBy]
  exact sorted_row _ _ _ r j (fun k k' => decide (-row x r k < -row x r k')) fun k k' => mask_before _ _

/-- The places that the reference's sort carries along. -/
theorem places_sorted (x : Whole) (r : Fin 1024) (j : Fin 65536) :
    (Host.sort2 (⟨2, ![1024, 65536]⟩ : Shape) 1 (Cert.ReferenceIdeal.comparator_f32_i32_d1 (F := Ideal)) (Host.negf x) (iotaInDim _ 32 1)).2 (ix2 r j)
      = BitVec.ofNat 32 (order x r j).val := by
  rw [Host.sort2_eq_sortBy]
  exact sorted_row (Cert.ReferenceIdeal.comparator_f32_i32_d1 (F := Ideal)) (fun i => (Host.negf x i, iotaInDim (⟨2, ![1024, 65536]⟩ : Shape) 32 1 i)) (iotaInDim (⟨2, ![1024, 65536]⟩ : Shape) 32 1) r j
    (fun k k' => decide (-row x r k < -row x r k')) fun k k' => reference_before _ _

end Cert.TopK

end
-- ==== Proof.TopK.Reference.lean ====
/-
What the reference computes at exact values: entry `k` of row `r` of its result is the entry of the argument at the
`k`-th place of the sorted row.
-/
module

public import proofs.«01_k».proof.Proof.Gen.ReferenceIdeal
public import proofs.«01_k».proof.Proof.TopK.Sorted
public import Idealize.ShloMosaic.Lib.ReduceAll
public import Idealize.ShloMosaic.Lib.StableHlo.Predicate

@[expose] public section

set_option maxRecDepth 16384

noncomputable section

namespace Cert.TopK

open Cert.ReferenceIdeal Cert.ReferenceIdeal.Gen
open Idealize.ShloMosaic Idealize.ShloMosaic.TcCoe
open Idealize.ShloMosaic.ValueIdx

/-- The `k`-th place of the sorted row, `k < 32`. -/
def place (x : Whole) (r : Fin 1024) (k : Fin 32) : Fin 65536 := order x r ⟨k.val, by omega⟩

/-- The first 32 places of each sorted row, as words. -/
def places (x : Whole) : IVec S1024x32 32 :=
  extractStridedSlice S1024x32 ![0, 0] ((Host.sort2 S1024x65536 1 (comparator_f32_i32_d1 (F := Ideal)) (Host.negf x) (iotaInDim S1024x65536 32 1)).2) slices_S1024x65536_S1024x32_0_0

theorem places_at (x : Whole) (r : Fin 1024) (k : Fin 32) : places x (ix2 r k) = BitVec.ofNat 32 (place x r k).val := by
  unfold places
  exact (slice2_axis1_apply 0 (Host.sort2 S1024x65536 1 (comparator_f32_i32_d1 (F := Ideal)) (Host.negf x) (iotaInDim S1024x65536 32 1)).2 _ r k ⟨k.val, by omega⟩ (Nat.zero_add _).symm).trans (places_sorted x r _)

/-- The start indices of the gather: a place below zero would count from the row's end. -/
def starts (x : Whole) : IVec S1024x32x1 32 :=
  shapeCast _ (select (cmpi .slt (places x) (broadcastInDim S1024x32 ![] bcast_S_S1024x32 (constantI S_ 32 0#32))) (addi (places x) (broadcastInDim S1024x32 ![] bcast_S_S1024x32 (constantI S_ 32 65536#32))) (places x)) shapeCasts_S1024x32_S1024x32x1

theorem starts_at (x : Whole) (r : Fin 1024) (k : Fin 32) (z : Fin 1) : starts x (ix3 r k z) = BitVec.ofNat 32 (place x r k).val := by
  unfold starts
  rw [shapeCast_apply _ _ _ (ix2 r k) (by
    rw [Shape.rowMajor_val_two, Shape.rowMajor_val_three]
    show r.val * 32 + k.val = (r.val * 32 + k.val) * 1 + z.val
    omega)]
  show Scalar.select (IntOp.cmpi .slt (places x (ix2 r k)) 0#32) _ (places x (ix2 r k)) = _
  rw [places_at]
  have h : IntOp.cmpi .slt (BitVec.ofNat 32 (place x r k).val) 0#32 = 0#1 := by
    refine (BitVec.eq_zero_or_eq_one _).resolve_right fun e => ?_
    exact absurd ((StableHlo.Predicate.slt_ofNat_iff _ 0 (by omega) (by omega)).mp e) (by omega)
  rw [h]
  rfl

/-- The word of a place of a row lies between the bounds of a row. -/
theorem word_inside (p : Fin 65536) :
    IntOp.andi (IntOp.cmpi .sge (BitVec.ofNat 32 p.val) 0#32) (IntOp.cmpi .sle (BitVec.ofNat 32 p.val) 65535#32) = 1#1 := by
  have hp := p.isLt
  have h1 : IntOp.cmpi .sge (BitVec.ofNat 32 p.val) 0#32 = 1#1 := (StableHlo.Predicate.sle_ofNat_iff 0 p.val (by omega) (by omega)).mpr (by omega)
  have h2 : IntOp.cmpi .sle (BitVec.ofNat 32 p.val) 65535#32 = 1#1 := (StableHlo.Predicate.sle_ofNat_iff p.val 65535 (by omega) (by omega)).mpr (by omega)
  rw [h1, h2]
  rfl

/-- Every start index lies inside its row. -/
def inside (x : Whole) : IVec S1024x32 1 :=
  Host.reduce IntOp.andi (andi (cmpi .sge (starts x) (broadcastInDim S1024x32x1 ![] bcast_S_S1024x32x1 (constantI S_ 32 0#32))) (cmpi .sle (starts x) (broadcastInDim S1024x32x1 ![0, 1, 2] bcast_S1x1x1_S1024x32x1_0_1_2 (broadcastInDim S1x1x1 ![2] bcast_S1_S1x1x1_2 (constantI S1 32 65535#32))))) (constantI S_ 1 1#1) reducesTo_S1024x32x1_S1024x32_d2 h_S_

theorem inside_at (x : Whole) (j : S1024x32.Idx) : inside x j = 1#1 := by
  refine Host.reduce_andi_one _ _ _ _ j rfl fun i => ?_
  have e : starts x i = BitVec.ofNat 32 (place x (i (0 : Fin 3)) (i (1 : Fin 3))).val :=
    (congrArg (starts x) (eq_ix3 (n0 := 1024) (n1 := 32) (n2 := 1) i)).trans (starts_at x _ _ _)
  show IntOp.andi (IntOp.cmpi .sge (starts x i) 0#32) (IntOp.cmpi .sle (starts x i) 65535#32) = 1#1
  rw [e]
  exact word_inside _

/-- The gather takes, in each row, the entry at the place that the start index names. -/
theorem gathered_at (x : Whole) (idx : IVec S1024x32x1 32) (r : Fin 1024) (k : Fin 32) (p : Fin 65536)
    (hp : idx (ix3 r k (0 : Fin 1)) = BitVec.ofNat 32 p.val) :
    Host.gather gather_S1024x65536_S1024x32x1_S1024x32_n_1_0_0_1_2_11 x idx (ix2 r k) = x (ix2 r p) := by
  unfold Host.gather
  refine congrArg x (funext fun a => Fin.ext ?_)
  let d := gather_S1024x65536_S1024x32x1_S1024x32_n_1_0_0_1_2_11
  show d.start (ix2 r k) idx a + d.batchCoord (ix2 r k) a + d.offCoord (ix2 r k) a = _
  match a with
  | ⟨0, _⟩ =>
    have hb : (0 : Fin 2) ∈ d.operandBatchingDims := List.mem_singleton.mpr rfl
    have e1 := d.start_batching (ix2 r k) idx 0 hb
    have e2 := d.offCoord_eq_zero (ix2 r k) 0 fun h => ((GatherDims.mem_sKept _ _).mp h).2 hb
    have e3 : d.batchCoord (ix2 r k) 0 = r.val := by
      unfold GatherDims.batchCoord
      rw [dif_pos hb]
      rfl
    show d.start (ix2 r k) idx 0 + d.batchCoord (ix2 r k) 0 + d.offCoord (ix2 r k) 0 = r.val
    omega
  | ⟨1, _⟩ =>
    have hm : (1 : Fin 2) ∈ d.startIndexMap := List.mem_singleton.mpr rfl
    have e1 := d.batchCoord_eq_zero (ix2 r k) 1 fun h => by simp [d, gather_S1024x65536_S1024x32x1_S1024x32_n_1_0_0_1_2_11] at h
    have e2 := d.offCoord_eq_zero (ix2 r k) 1 fun h => ((GatherDims.mem_sKept _ _).mp h).1 (List.mem_singleton.mpr rfl)
    have e3 : d.start (ix2 r k) idx 1 = p.val := by
      unfold GatherDims.start
      rw [dif_pos hm]
      have hs : d.siIdx (ix2 r k) ⟨List.idxOf (1 : Fin 2) d.startIndexMap, List.idxOf_lt_length_iff.2 hm⟩ = ix3 r k (0 : Fin 1) := by
        funext b
        match b with
        | ⟨0, _⟩ => rfl
        | ⟨1, _⟩ => rfl
        | ⟨2, _⟩ => rfl
      have h := p.isLt
      rw [hs, hp, StableHlo.Predicate.toInt_ofNat_small _ (by omega)]
      show min p.val (65536 - 1) = p.val
      omega
    show d.start (ix2 r k) idx 1 + d.batchCoord (ix2 r k) 1 + d.offCoord (ix2 r k) 1 = p.val
    omega

/-- Where the condition holds, a selection is its first branch. -/
theorem select_true {s : Shape} (c : IVec s 1) (a b : FVec Ideal s .f32) (j : s.Idx) (h : c j = 1#1) : select c a b j = a j := by
  show Scalar.select (c j) (a j) (b j) = a j
  rw [h]
  rfl

/-- The reference's result. -/
def picked (x : Whole) : FVec Ideal S1024x32 .f32 :=
  select (inside x) (Host.gather gather_S1024x65536_S1024x32x1_S1024x32_n_1_0_0_1_2_11 x (starts x)) (broadcastInDim S1024x32 ![] bcast_S_S1024x32 (constant S_ .f32 0x7FC00000#32))

theorem picked_at (x : Whole) (r : Fin 1024) (k : Fin 32) : picked x (ix2 r k) = row x r (place x r k) := by
  exact (select_true _ _ _ _ (inside_at x (ix2 r k))).trans (gathered_at x (starts x) r k _ (starts_at x r k 0))

end Cert.TopK

end
-- ==== Proof.TopK.Mask.lean ====
/-
What the mask says where it holds: up to place `k` the sorted row falls strictly and starts below +∞, or it has −∞ at
place `k`.
-/
module

public import proofs.«01_k».proof.Proof.Gen.On_untied
public import proofs.«01_k».proof.Proof.TopK.Reference

@[expose] public section

set_option maxRecDepth 16384

noncomputable section

namespace Cert.TopK

open Cert.On_untied Cert.On_untied.Gen
open Idealize.ShloMosaic Idealize.ShloMosaic.TcCoe
open Idealize.ShloMosaic.ValueIdx

/-- The first 32 entries of each sorted row, largest first. -/
def firsts (x : Whole) : FVec Ideal S1024x32 .f32 :=
  Host.negf (extractStridedSlice S1024x32 ![0, 0] (fn_sort (F := Ideal) (Host.negf x)) slices_S1024x65536_S1024x32_0_0)

theorem firsts_at (x : Whole) (r : Fin 1024) (k : Fin 32) : firsts x (ix2 r k) = row x r (place x r k) := by
  have e : extractStridedSlice S1024x32 ![0, 0] (fn_sort (F := Ideal) (Host.negf x)) slices_S1024x65536_S1024x32_0_0 (ix2 r k) = -row x r (place x r k) :=
    (slice2_axis1_apply 0 (fn_sort (F := Ideal) (Host.negf x)) _ r k ⟨k.val, by omega⟩ (Nat.zero_add _).symm).trans (mask_sorted x r _)
  show -(extractStridedSlice S1024x32 ![0, 0] (fn_sort (F := Ideal) (Host.negf x)) slices_S1024x65536_S1024x32_0_0 (ix2 r k)) = _
  rw [e, neg_neg]

/-- Whether each of those entries, from the second on, lies below the one before it. -/
def falls (x : Whole) : IVec S1024x31 1 :=
  cmpf .olt (extractStridedSlice S1024x31 ![0, 1] (firsts x) slices_S1024x32_S1024x31_0_1) (extractStridedSlice S1024x31 ![0, 0] (firsts x) slices_S1024x32_S1024x31_0_0)

/-- The bit of a strict comparison. -/
theorem olt_one (a b : EReal) (h : FloatOps.cmpf (F := Ideal) (φ := .f32) .olt a b = 1#1) : a < b :=
  of_decide_eq_true ((StableHlo.Predicate.ofBool_eq_one_iff _).mp h)

theorem falls_at (x : Whole) (r : Fin 1024) (i : Fin 31) (h : falls x (ix2 r i) = 1#1) :
    row x r (place x r i.succ) < row x r (place x r i.castSucc) := by
  have e1 : extractStridedSlice S1024x31 ![0, 1] (firsts x) slices_S1024x32_S1024x31_0_1 (ix2 r i) = row x r (place x r i.succ) :=
    (slice2_axis1_apply 1 (firsts x) _ r i i.succ (by rw [Fin.val_succ]; omega)).trans (firsts_at x r _)
  have e0 : extractStridedSlice S1024x31 ![0, 0] (firsts x) slices_S1024x32_S1024x31_0_0 (ix2 r i) = row x r (place x r i.castSucc) :=
    (slice2_axis1_apply 0 (firsts x) _ r i i.castSucc (Nat.zero_add _).symm).trans (firsts_at x r _)
  have := olt_one _ _ h
  rwa [e1, e0] at this

/-- Which of the 31 comparisons do not count for the 32 columns: comparison `i` for column `k` when `i ≥ k`. -/
def spared : IVec S32x31 1 :=
  cmpi .sge (broadcastInDim S32x31 ![0, 1] bcast_S1x31_S32x31_0_1 (broadcastInDim S1x31 ![1] bcast_S31_S1x31_1 (iotaInDim S31 32 0)))
    (broadcastInDim S32x31 ![0, 1] bcast_S32x1_S32x31_0_1 (broadcastInDim S32x1 ![0] bcast_S32_S32x1_0 (iotaInDim S32 32 0)))

theorem spared_at (k : Fin 32) (i : Fin 31) (h : spared (ix2 k i) = 1#1) : k.val ≤ i.val := by
  have h : IntOp.cmpi .sge (BitVec.ofNat 32 i.val) (BitVec.ofNat 32 k.val) = 1#1 := h
  exact (StableHlo.Predicate.sle_ofNat_iff k.val i.val (by omega) (by omega)).mp h

/-- A table of rows and comparisons, laid along the columns. -/
theorem along_columns (f : IVec S1024x31 1) (r : Fin 1024) (k : Fin 32) (i : Fin 31) :
    broadcastInDim S1024x32x31 ![0, 1, 2] bcast_S1024x1x31_S1024x32x31_0_1_2 (broadcastInDim S1024x1x31 ![0, 2] bcast_S1024x31_S1024x1x31_0_2 f) (ix3 r k i)
      = f (ix2 r i) :=
  (broadcastInDim_apply _ _ _ (ix3 r k i) (ix3 r (0 : Fin 1) i) fun a => by
    match a with
    | ⟨0, _⟩ => rfl
    | ⟨1, _⟩ => rfl
    | ⟨2, _⟩ => rfl).trans
  (broadcastInDim_apply _ _ _ (ix3 r (0 : Fin 1) i) (ix2 r i) fun a => by
    match a with
    | ⟨0, _⟩ => rfl
    | ⟨1, _⟩ => rfl)

/-- A table of columns and comparisons, laid along the rows. -/
theorem along_rows (f : IVec S32x31 1) (r : Fin 1024) (k : Fin 32) (i : Fin 31) :
    broadcastInDim S1024x32x31 ![0, 1, 2] bcast_S1x32x31_S1024x32x31_0_1_2 (broadcastInDim S1x32x31 ![1, 2] bcast_S32x31_S1x32x31_1_2 f) (ix3 r k i)
      = f (ix2 k i) :=
  (broadcastInDim_apply _ _ _ (ix3 r k i) (ix3 (0 : Fin 1) k i) fun a => by
    match a with
    | ⟨0, _⟩ => rfl
    | ⟨1, _⟩ => rfl
    | ⟨2, _⟩ => rfl).trans
  (broadcastInDim_apply _ _ _ (ix3 (0 : Fin 1) k i) (ix2 k i) fun a => by
    match a with
    | ⟨0, _⟩ => rfl
    | ⟨1, _⟩ => rfl)

/-- One bit for each row, laid along the columns. -/
theorem along_row (f : IVec S1024x1 1) (r : Fin 1024) (k : Fin 32) :
    broadcastInDim S1024x32 ![0, 1] bcast_S1024x1_S1024x32_0_1 f (ix2 r k) = f (ix2 r (0 : Fin 1)) :=
  broadcastInDim_apply _ _ _ (ix2 r k) (ix2 r (0 : Fin 1)) fun a => by
    match a with
    | ⟨0, _⟩ => rfl
    | ⟨1, _⟩ => rfl

/-- Every comparison that counts holds. -/
def strict (x : Whole) : IVec S1024x32x31 1 :=
  ori (broadcastInDim S1024x32x31 ![0, 1, 2] bcast_S1024x1x31_S1024x32x31_0_1_2 (broadcastInDim S1024x1x31 ![0, 2] bcast_S1024x31_S1024x1x31_0_2 (falls x)))
    (broadcastInDim S1024x32x31 ![0, 1, 2] bcast_S1x32x31_S1024x32x31_0_1_2 (broadcastInDim S1x32x31 ![1, 2] bcast_S32x31_S1x32x31_1_2 spared))

theorem strict_at (x : Whole) (r : Fin 1024) (k : Fin 32) (i : Fin 31) (h : strict x (ix3 r k i) = 1#1) (hi : i.val < k.val) :
    row x r (place x r i.succ) < row x r (place x r i.castSucc) := by
  have h : IntOp.ori (falls x (ix2 r i)) (spared (ix2 k i)) = 1#1 := by
    rw [← along_columns (falls x) r k i, ← along_rows spared r k i]
    exact h
  refine falls_at x r i ?_
  rcases BitVec.eq_zero_or_eq_one (spared (ix2 k i)) with e | e
  · rw [e] at h
    rcases BitVec.eq_zero_or_eq_one (falls x (ix2 r i)) with e' | e'
    · rw [e'] at h
      exact absurd h (by decide)
    · exact e'
  · exact absurd (spared_at k i e) (by omega)

/-- Whether the largest entry of a row lies below +∞. -/
def bounded (x : Whole) : IVec S1024x1 1 :=
  cmpf .olt (extractStridedSlice S1024x1 ![0, 0] (firsts x) slices_S1024x32_S1024x1_0_0) (broadcastInDim S1024x1 ![] bcast_S_S1024x1 (constant S_ .f32 0x7F800000#32))

theorem bounded_at (x : Whole) (r : Fin 1024) (h : bounded x (ix2 r (0 : Fin 1)) = 1#1) : row x r (place x r 0) < ⊤ := by
  have e : extractStridedSlice S1024x1 ![0, 0] (firsts x) slices_S1024x32_S1024x1_0_0 (ix2 r (0 : Fin 1)) = row x r (place x r 0) :=
    (slice2_axis1_apply 0 (firsts x) _ r (0 : Fin 1) (0 : Fin 32) rfl).trans (firsts_at x r _)
  have h := olt_one _ (FloatOps.ofBits (F := Ideal) .f32 0x7F800000#32) h
  rwa [e, word_top] at h

/-- Whether the entry listed is −∞. -/
def absent (x : Whole) : IVec S1024x32 1 :=
  cmpf .oeq (firsts x) (broadcastInDim S1024x32 ![] bcast_S_S1024x32 (constant S_ .f32 0xFF800000#32))

theorem absent_at (x : Whole) (r : Fin 1024) (k : Fin 32) (h : absent x (ix2 r k) = 1#1) : row x r (place x r k) = ⊥ := by
  have h : firsts x (ix2 r k) = FloatOps.ofBits (F := Ideal) .f32 0xFF800000#32 :=
    of_decide_eq_true ((StableHlo.Predicate.ofBool_eq_one_iff _).mp h)
  rwa [firsts_at, word_bot] at h

/-- The mask, put together from these. -/
theorem mask_eq (x : Whole) : fn (F := Ideal) x
    = ori (andi (Host.reduce IntOp.andi (strict x) (constantI S_ 1 1#1) reducesTo_S1024x32x31_S1024x32_d2 h_S_)
        (broadcastInDim S1024x32 ![0, 1] bcast_S1024x1_S1024x32_0_1 (bounded x))) (absent x) := rfl

/-- Where the mask holds at row `r` and column `k`, the row's largest entry lies below +∞ and each of the next `k` entries
    of the sorted row lies below the one before it; or the last of them is −∞. -/
theorem mask_at (x : Whole) (r : Fin 1024) (k : Fin 32) (h : fn (F := Ideal) x (ix2 r k) = 1#1) :
    (row x r (place x r 0) < ⊤ ∧ ∀ i : Fin 31, i.val < k.val → row x r (place x r i.succ) < row x r (place x r i.castSucc))
    ∨ row x r (place x r k) = ⊥ := by
  rw [mask_eq] at h
  have some : ∀ a b c : BitVec 1, IntOp.ori (IntOp.andi a b) c = 1#1 → (a = 1#1 ∧ b = 1#1) ∨ c = 1#1 := by decide
  refine (some _ _ _ h).imp (fun ⟨h1, h2⟩ => ?_) (absent_at x r k)
  refine ⟨bounded_at x r ((along_row (bounded x) r k).symm.trans h2), fun i hi => strict_at x r k i ?_ hi⟩
  refine Host.reduce_andi_eq_one (strict x) _ _ _ (ix2 r k) h1 (ix3 r k i) ?_
  funext b
  match b with
  | ⟨0, _⟩ => rfl
  | ⟨1, _⟩ => rfl

end Cert.TopK

end
-- ==== Proof.TopK.Answer.lean ====
/-
Where the mask holds, the kernel's result is the reference's: the devices' columns together hold the entries of the
argument's rows, and the distinct largest values of a row are the first entries of the sorted row as long as those
fall strictly, and wherever those are −∞.
-/
module

public import proofs.«01_k».proof.Proof.TopK.Sweeps
public import proofs.«01_k».proof.Proof.TopK.Mask
public import Idealize.ShloMosaic.Lib.Layout

@[expose] public section

set_option maxRecDepth 16384

noncomputable section

namespace Cert.TopK

open Cert.KernelIdeal Cert.KernelIdeal.Gen
open Idealize.ShloMosaic Idealize.ShloMosaic.TcCoe
open Idealize.ShloMosaic.ValueIdx

/-- Entry `j` of tile `t` of device `d`, as a column of the argument. -/
def column (d t : Fin 8) (j : Fin 1024) : Fin 65536 := ⟨d.val * 8192 + (1024 * t.val + j.val), by omega⟩

/-- A device that holds its block of the argument holds, in its tiles, the entries at their columns. -/
theorem wholeRow_entry (X : Dev nD → XC Ideal) (x : Whole) (h : ∀ c : Dev nD, X c = Layout.block ⟨2, ![1024, 8192]⟩ ⟨2, ![1024, 65536]⟩ 1 8 c x)
    (r : Fin 1024) (d t : Fin 8) (j : Fin 1024) : wholeRow X r (d, t, j) = row x r (column d t j) := by
  show work0 (X d) (ix3 (n0 := 8) (n1 := 1024) (n2 := 1024) t r j) = _
  unfold work0
  rw [h d]
  refine congrArg x (funext fun a => Fin.ext ?_)
  match a with
  | ⟨0, _⟩ => rfl
  | ⟨1, _⟩ => rfl

/-- Every column of the argument is held by some device. -/
theorem column_onto (p : Fin 65536) : ∃ d t j, column d t j = p :=
  ⟨⟨p.val / 8192, by omega⟩, ⟨p.val % 8192 / 1024, by omega⟩, ⟨p.val % 1024, by omega⟩, Fin.ext (by
    show p.val / 8192 * 8192 + (1024 * (p.val % 8192 / 1024) + p.val % 1024) = p.val
    omega)⟩

/-- The two results agree wherever the mask holds. -/
theorem result_eq (X : Dev nD → XC Ideal) (x : Whole) (h : ∀ c : Dev nD, X c = Layout.block ⟨2, ![1024, 8192]⟩ ⟨2, ![1024, 65536]⟩ 1 8 c x)
    (i : S1024x32.Idx) (hi : Cert.On_untied.fn (F := Ideal) x i = 1#1) : resultOf X i = picked x i := by
  obtain ⟨r, k, rfl⟩ : ∃ (r : Fin 1024) (k : Fin 32), i = ix2 r k := ⟨i 0, i 1, eq_ix2 (n0 := 1024) (n1 := 32) i⟩
  refine (result_value X r k).trans (Eq.trans ?_ (picked_at x r k).symm)
  have e : tops (wholeRow X r) (k.val + 1) = tops (row x r) (k.val + 1) :=
    tops_congr _ _ (fun ⟨d, t, j⟩ => ⟨column d t j, wholeRow_entry X x h r d t j⟩)
      (fun p => by
        obtain ⟨d, t, j, e⟩ := column_onto p
        exact ⟨(d, t, j), ((wholeRow_entry X x h r d t j).trans (congrArg _ e)).symm⟩) _
  rw [e]
  rcases mask_at x r k hi with ⟨htop, hfall⟩ | hbot
  · exact tops_sorted (row x r) (order x r) (order_surjective x r) (order_falls x r) k.val (by omega) htop
      fun i hik => hfall ⟨i, by omega⟩ hik
  · have hle := tops_le (row x r) (order x r) (order_surjective x r) (order_falls x r) k.val (by omega)
    exact (le_bot_iff.mp (hle.trans_eq hbot)).trans hbot.symm

end Cert.TopK

end
-- ==== Proof.lean ====
/-
The certificate: the kernel's run for any float values gives both frames; the reference's run and the equation of the
two results give the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_untied
public import proofs.«01_k».proof.Proof.TopK.Launch
public import proofs.«01_k».proof.Proof.TopK.Answer
public import Idealize.ShloMosaic.Adequacy
public import Idealize.ShloMosaic.Init

@[expose] public section

noncomputable section

namespace Cert.Proof

open Idealize.ShloMosaic Idealize.ShloMosaic.TcCoe
open Idealize.SL.Sem

/-- The kernel as given and the kernel read at exact values have the same text: the same body at each label. -/
theorem same_bodies : @Cert.Kernel.defs₀ Bits _ _ = @Cert.KernelIdeal.defs₀ Bits _ _ := by
  unfold Cert.Kernel.defs₀ Cert.KernelIdeal.defs₀
  refine congrArg _ ?_
  funext l t
  rcases l with ⟨_ | _, h⟩
  · rfl
  · rfl
theorem same_defs : @Cert.Kernel.defs Bits _ _ = @Cert.KernelIdeal.defs Bits _ _ := congrArg (Pipeline.defs _) same_bodies

/-- The kernel as given runs, leaves its columns unchanged and every counter at zero: the same run at its float values. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
        ∧ r.2.sem = fun _ => 0) :=
    (θ_run Cert.KernelIdeal.defs _ _).mono (fun _ h => ⟨fun c => (h.1 c).2, h.2⟩) (Cert.TopK.run_main (F := Bits) m ρ)
  rw [same_defs]
  exact h

/-- So does the kernel at exact values. -/
theorem frame_ideal : Cert.quiescent_KernelIdeal := fun m ρ _ =>
  (θ_run Cert.KernelIdeal.defs _ _).mono (fun _ h => ⟨fun c => (h.1 c).2, h.2⟩) (Cert.TopK.run_main (F := Ideal) m ρ)

/-- The reference runs, leaves its argument unchanged, and has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the mask holds, every device's result is the reference's. -/
theorem results_agree : Cert.algebraic_KernelIdeal_ReferenceIdeal_on_untied := fun m ρ m' ρ' _ hblock =>
  ⟨Cert.TopK.picked (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨fun i hi => (congrFun ((h.1 c).1.trans (Cert.TopK.arr_final m ρ c)) i).trans (Cert.TopK.result_eq (Cert.TopK.cols₀ m) _ hblock i hi), (h.1 c).2⟩)
      (Cert.TopK.run_main (F := Ideal) m ρ),
    (θ_run Cert.ReferenceIdeal.defs _ _).mono (fun _ h => ⟨fun i _ => congrFun (h 0).1 i, (h 0).2⟩) (Cert.ReferenceIdeal.Value.run (F := Ideal) m' ρ')⟩

/-- Every claim of the certificate. -/
theorem claim : Cert.Claim :=
  ⟨Cert.Kernel.Gen.facts, Cert.KernelIdeal.Gen.facts, Cert.ReferenceIdeal.Gen.facts, Cert.On_untied.Gen.facts,
    frame_kernel, frame_ideal, frame_reference, trivial, results_agree⟩

end Cert.Proof

end
